-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v87) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v13)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v13) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v102) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S2x8192x2048 : Shape := ⟨3, ![2, 8192, 2048]⟩
abbrev S2x2048 : Shape := ⟨2, ![2, 2048]⟩
abbrev S2048 : Shape := ⟨1, ![2048]⟩
abbrev S2x2048x8192 : Shape := ⟨3, ![2, 2048, 8192]⟩
abbrev S16384x2048 : Shape := ⟨2, ![16384, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S256x512 : Shape := ⟨2, ![256, 512]⟩
abbrev S512x2048 : Shape := ⟨2, ![512, 2048]⟩
abbrev S1024x512 : Shape := ⟨2, ![1024, 512]⟩

abbrev nBuf : Space → Nat
  | .hbm => 13
  | .vmem => 11
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2048, .f32⟩
  | .hbm, ⟨3, _⟩ => ⟨S2x2048x8192, .f32⟩
  | .hbm, ⟨4, _⟩ => ⟨S2x8192x2048, .f32⟩
  | .hbm, ⟨5, _⟩ => ⟨S16384x2048, .f32⟩
  | .hbm, ⟨6, _⟩ => ⟨S2x2048x8192, .bf16⟩
  | .hbm, ⟨7, _⟩ => ⟨S2x8192x2048, .bf16⟩
  | .hbm, ⟨8, _⟩ => ⟨S1x2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .bf16⟩
  | .local _ .vmem, ⟨4, _⟩ => ⟨S1x2048x512, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c15_i32 : BitVec 32 := 15#32
  let v4 : BitVec 1 := Scalar.cmpi .slt arg1 c15_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c15_i32_3 : BitVec 32 := 15#32
  let v8 : BitVec 1 := Scalar.cmpi .eq arg1 c15_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2x8192x2048 : Shape := ⟨3, ![2, 8192, 2048]⟩
abbrev S2x2048 : Shape := ⟨2, ![2, 2048]⟩
abbrev S2048 : Shape := ⟨1, ![2048]⟩
abbrev S2x2048x8192 : Shape := ⟨3, ![2, 2048, 8192]⟩
abbrev S1x2048 : Shape := ⟨2, ![1, 2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S1x8192x2048 : Shape := ⟨3, ![1, 8192, 2048]⟩
abbrev S8192x2048 : Shape := ⟨2, ![8192, 2048]⟩
abbrev S2x8192x8192 : Shape := ⟨3, ![2, 8192, 8192]⟩
abbrev S16384x2048 : Shape := ⟨2, ![16384, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S2048, .f32⟩
  | .hbm, ⟨3, _⟩ => ⟨S2x2048x8192, .f32⟩
  | .hbm, ⟨4, _⟩ => ⟨S2x8192x2048, .f32⟩
  | .hbm, ⟨5, _⟩ => ⟨S1x2048, .f32⟩
  | .hbm, ⟨6, _⟩ => ⟨S2048, .f32⟩
  | .hbm, ⟨7, _⟩ => ⟨S2x8192x2048, .f32⟩
  | .hbm, ⟨8, _⟩ => ⟨S_, .f32⟩
  | .hbm, ⟨9, _⟩ => ⟨S2x8192, .f32⟩
  | .hbm, ⟨10, _⟩ => ⟨S2x8192x1, .f32⟩
  | .hbm, ⟨11, _⟩ => ⟨S_, .f32⟩
  | .hbm, ⟨12, _⟩ => ⟨S2x8192x1, .f32⟩
  | .hbm, ⟨13, _⟩ => ⟨S2x8192x1, .f32⟩
  | .hbm, ⟨14, _⟩ => ⟨S_, .f32⟩
  | .hbm, ⟨15, _⟩ => ⟨S2x8192x1, .f32⟩
  | .hbm, ⟨16, _⟩ => ⟨S2x8192x1, .f32⟩
  | .hbm, ⟨17, _⟩ => ⟨S2x8192x1, .f32⟩
  | .hbm, ⟨18, _⟩ => ⟨S2x8192x2048, .f32⟩
  | .hbm, ⟨19, _⟩ => ⟨S2x8192x2048, .f32⟩
  | .hbm, ⟨20, _⟩ => ⟨S1x1x2048, .f32⟩
  | .hbm, ⟨21, _⟩ => ⟨S2x8192x2048, .f32⟩
  | .hbm, ⟨22, _⟩ => ⟨S2x8192x2048, .f32⟩
  | .hbm, ⟨23, _⟩ => ⟨S1x2048x8192, .f32⟩
  | .hbm, ⟨24, _⟩ => ⟨S2048x8192, .f32⟩
  | .hbm, ⟨25, _⟩ => ⟨S1x8192x2048, .f32⟩
  | .hbm, ⟨26, _⟩ => ⟨S8192x2048, .f32⟩
  | .hbm, ⟨27, _⟩ => ⟨S2x8192x8192, .f32⟩
  | .hbm, ⟨28, _⟩ => ⟨S_, .f32⟩
  | .hbm, ⟨29, _⟩ => ⟨S2x8192x8192, .f32⟩
  | .hbm, ⟨30, _⟩ => ⟨S2x8192x8192, .f32⟩
  | .hbm, ⟨31, _⟩ => ⟨S2x8192x8192, .f32⟩
  | .hbm, ⟨32, _⟩ => ⟨S2x8192x2048, .f32⟩
  | .hbm, ⟨33, _⟩ => ⟨S2x8192x2048, .f32⟩
  | .hbm, ⟨34, _⟩ => ⟨S2x8192x2048, .f32⟩
  | .hbm, ⟨35, _⟩ => ⟨S_, .f32⟩
  | .hbm, ⟨36, _⟩ => ⟨S2x8192, .f32⟩
  | .hbm, ⟨37, _⟩ => ⟨S2x8192x1, .f32⟩
  | .hbm, ⟨38, _⟩ => ⟨S_, .f32⟩
  | .hbm, ⟨39, _⟩ => ⟨S2x8192x1, .f32⟩
  | .hbm, ⟨40, _⟩ => ⟨S2x8192x1, .f32⟩
  | .hbm, ⟨41, _⟩ => ⟨S_, .f32⟩
  | .hbm, ⟨42, _⟩ => ⟨S2x8192x1, .f32⟩
  | .hbm, ⟨43, _⟩ => ⟨S2x8192x1, .f32⟩
  | .hbm, ⟨44, _⟩ => ⟨S2x8192x1, .f32⟩
  | .hbm, ⟨45, _⟩ => ⟨S2x8192x2048, .f32⟩
  | .hbm, ⟨46, _⟩ => ⟨S2x8192x2048, .f32⟩
  | .hbm, ⟨47, _⟩ => ⟨S1x1x2048, .f32⟩
  | .hbm, ⟨48, _⟩ => ⟨S2x8192x2048, .f32⟩
  | .hbm, ⟨49, _⟩ => ⟨S2x8192x2048, .f32⟩
  | .hbm, ⟨50, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel2.lean ====
abbrev S2x8192x2048 : Shape := ⟨3, ![2, 8192, 2048]⟩
abbrev S2x8192 : Shape := ⟨2, ![2, 8192]⟩
abbrev S2x2048 : Shape := ⟨2, ![2, 2048]⟩
abbrev S1x2048x6144 : Shape := ⟨3, ![1, 2048, 6144]⟩
abbrev S16384x2048 : Shape := ⟨2, ![16384, 2048]⟩
abbrev S1x2048 : Shape := ⟨2, ![1, 2048]⟩
abbrev S2048 : Shape := ⟨1, ![2048]⟩
abbrev S2048x6144 : Shape := ⟨2, ![2048, 6144]⟩
abbrev S16384 : Shape := ⟨1, ![16384]⟩
abbrev S16 : Shape := ⟨1, ![16]⟩
abbrev S_ : Shape := ⟨0, ![]⟩
abbrev S96 : Shape := ⟨1, ![96]⟩
abbrev S128 : Shape := ⟨1, ![128]⟩
abbrev S1x128 : Shape := ⟨2, ![1, 128]⟩
abbrev S16384x1 : Shape := ⟨2, ![16384, 1]⟩
abbrev S16384x6144 : Shape := ⟨2, ![16384, 6144]⟩
abbrev S1024x2048 : Shape := ⟨2, ![1024, 2048]⟩
abbrev S2048x1024 : Shape := ⟨2, ![2048, 1024]⟩
abbrev S1024x1 : Shape := ⟨2, ![1024, 1]⟩
abbrev S1024x1024 : Shape := ⟨2, ![1024, 1024]⟩
abbrev S2x1024x128 : Shape := ⟨3, ![2, 1024, 128]⟩
abbrev S256x2048 : Shape := ⟨2, ![256, 2048]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S2048x256 : Shape := ⟨2, ![2048, 256]⟩
abbrev S256x256 : Shape := ⟨2, ![256, 256]⟩
abbrev S1x1024x128 : Shape := ⟨3, ![1, 1024, 128]⟩
abbrev S1024x128 : Shape := ⟨2, ![1024, 128]⟩
abbrev S1024x256 : Shape := ⟨2, ![1024, 256]⟩

abbrev nBuf : Space → Nat
  | .hbm => 35
  | .vmem => 14
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2x2048, .f32⟩
  | .hbm, ⟨3, _⟩ => ⟨S1x2048x6144, .f32⟩
  | .hbm, ⟨4, _⟩ => ⟨S16384x2048, .f32⟩
  | .hbm, ⟨5, _⟩ => ⟨S1x2048, .f32⟩
  | .hbm, ⟨6, _⟩ => ⟨S2048, .f32⟩
  | .hbm, ⟨7, _⟩ => ⟨S2048x6144, .f32⟩
  | .hbm, ⟨8, _⟩ => ⟨S2048x6144, .bf16⟩
  | .hbm, ⟨9, _⟩ => ⟨S16384, .i32⟩
  | .hbm, ⟨10, _⟩ => ⟨S16, .f32⟩
  | .hbm, ⟨11, _⟩ => ⟨S_, .f32⟩
  | .hbm, ⟨12, _⟩ => ⟨S16, .f32⟩
  | .hbm, ⟨13, _⟩ => ⟨S16, .f32⟩
  | .hbm, ⟨14, _⟩ => ⟨S_, .f32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S96, .f32⟩
  | .hbm, ⟨22, _⟩ => ⟨S128, .f32⟩
  | .hbm, ⟨23, _⟩ => ⟨S1x128, .f32⟩
  | .hbm, ⟨24, _⟩ => ⟨S_, .f32⟩
  | .hbm, ⟨25, _⟩ => ⟨S16, .f32⟩
  | .hbm, ⟨26, _⟩ => ⟨S16, .f32⟩
  | .hbm, ⟨27, _⟩ => ⟨S_, .f32⟩
  | .hbm, ⟨28, _⟩ => ⟨S16, .f32⟩
  | .hbm, ⟨29, _⟩ => ⟨S128, .f32⟩
  | .hbm, ⟨30, _⟩ => ⟨S1x128, .f32⟩
  | .hbm, ⟨31, _⟩ => ⟨S1x2048, .f32⟩
  | .hbm, ⟨32, _⟩ => ⟨S16384, .f32⟩
  | .hbm, ⟨33, _⟩ => ⟨S16384x1, .f32⟩
  | .hbm, ⟨34, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1, .f32⟩
  | .local _ .vmem, ⟨6, _⟩ => ⟨S1024x1, .f32⟩
  | .local _ .vmem, ⟨7, _⟩ => ⟨S1x128, .f32⟩
  | .local _ .vmem, ⟨8, _⟩ => ⟨S1x128, .f32⟩
  | .local _ .vmem, ⟨9, _⟩ => ⟨S1024x1024, .f32⟩
  | .local _ .vmem, ⟨10, _⟩ => ⟨S1024x1024, .f32⟩
  | .local _ .vmem, ⟨11, _⟩ => ⟨S1024x2048, .bf16⟩
  | .local _ .vmem, ⟨12, _⟩ => ⟨S2x1024x128, .f32⟩
  | .local _ .vmem, ⟨13, _⟩ => ⟨S2x1024x128, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 6], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c4_i32 : BitVec 32 := 4#32
  let v4 : BitVec 1 := Scalar.cmpi .slt arg1 c4_i32
  let v5 : BitVec 1 := Scalar.andi v3 v4
  let v6 : BitVec 32 := Scalar.extui v5
  let c0_i32_2 : BitVec 32 := 0#32
  let v7 : BitVec 1 := Scalar.cmpi .ne v6 c0_i32_2
  v7

def k0_off1 (i : grid0.Coords) : Fin 3 → Nat :=
  let arg1 : BitVec 32 := BitVec.ofNat 32 (i 1).val
  let c2_i32 : BitVec 32 := 2#32
  let v11 : BitVec 1 := Scalar.cmpi .sge arg1 c2_i32
  let v12 : BitVec 32 := Scalar.extui v11
  let v14 : Index := Scalar.indexCast v12
  let c0_6 : Index := 0#32
  let c0_7 : Index := 0#32
  ![v14.toNat, 0, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg1 : BitVec 32 := BitVec.ofNat 32 (i 1).val
  let c4_i32_3 : BitVec 32 := 4#32
  let v8 : BitVec 1 := Scalar.cmpi .sge arg1 c4_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S2x8192x2048 : Shape := ⟨3, ![2, 8192, 2048]⟩
abbrev S2x8192 : Shape := ⟨2, ![2, 8192]⟩
abbrev S2x2048 : Shape := ⟨2, ![2, 2048]⟩
abbrev S1x2048x6144 : Shape := ⟨3, ![1, 2048, 6144]⟩
abbrev S1x2048 : Shape := ⟨2, ![1, 2048]⟩
abbrev S2048 : Shape := ⟨1, ![2048]⟩
abbrev S_ : Shape := ⟨0, ![]⟩
abbrev S2x8192x1 : Shape := ⟨3, ![2, 8192, 1]⟩
abbrev S1x1x2048 : Shape := ⟨3, ![1, 1, 2048]⟩
abbrev S2048x6144 : Shape := ⟨2, ![2048, 6144]⟩
abbrev S2x8192x6144 : Shape := ⟨3, ![2, 8192, 6144]⟩
abbrev S2x8192x3x16x128 : Shape := ⟨5, ![2, 8192, 3, 16, 128]⟩
abbrev S2x8192x1x16x128 : Shape := ⟨5, ![2, 8192, 1, 16, 128]⟩
abbrev S2x8192x16x128 : Shape := ⟨4, ![2, 8192, 16, 128]⟩
abbrev S16 : Shape := ⟨1, ![16]⟩
abbrev S2x8192x1x1 : Shape := ⟨4, ![2, 8192, 1, 1]⟩
abbrev S1x1x1x16 : Shape := ⟨4, ![1, 1, 1, 16]⟩
abbrev S2x8192x1x16 : Shape := ⟨4, ![2, 8192, 1, 16]⟩
abbrev S2x8192x16x16 : Shape := ⟨4, ![2, 8192, 16, 16]⟩
abbrev S2x8192x16x96 : Shape := ⟨4, ![2, 8192, 16, 96]⟩
abbrev S16384x2048 : Shape := ⟨2, ![16384, 2048]⟩
abbrev S16384x6144 : Shape := ⟨2, ![16384, 6144]⟩

abbrev nBuf : Space → Nat
  | .hbm => 102
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x8192, .i32⟩
  | .hbm, ⟨2, _⟩ => ⟨S2x2048, .f32⟩
  | .hbm, ⟨3, _⟩ => ⟨S1x2048x6144, .f32⟩
  | .hbm, ⟨4, _⟩ => ⟨S1x2048, .f32⟩
  | .hbm, ⟨5, _⟩ => ⟨S2048, .f32⟩
  | .hbm, ⟨6, _⟩ => ⟨S2x8192x2048, .f32⟩
  | .hbm, ⟨7, _⟩ => ⟨S_, .f32⟩
  | .hbm, ⟨8, _⟩ => ⟨S2x8192, .f32⟩
  | .hbm, ⟨9, _⟩ => ⟨S2x8192x1, .f32⟩
  | .hbm, ⟨10, _⟩ => ⟨S_, .f32⟩
  | .hbm, ⟨11, _⟩ => ⟨S2x8192x1, .f32⟩
  | .hbm, ⟨12, _⟩ => ⟨S2x8192x1, .f32⟩
  | .hbm, ⟨13, _⟩ => ⟨S_, .f32⟩
  | .hbm, ⟨14, _⟩ => ⟨S2x8192x1, .f32⟩
  | .hbm, ⟨15, _⟩ => ⟨S2x8192x1, .f32⟩
  | .hbm, ⟨16, _⟩ => ⟨S2x8192x1, .f32⟩
  | .hbm, ⟨17, _⟩ => ⟨S2x8192x2048, .f32⟩
  | .hbm, ⟨18, _⟩ => ⟨S2x8192x2048, .f32⟩
  | .hbm, ⟨19, _⟩ => ⟨S1x1x2048, .f32⟩
  | .hbm, ⟨20, _⟩ => ⟨S2x8192x2048, .f32⟩
  | .hbm, ⟨21, _⟩ => ⟨S2x8192x2048, .f32⟩
  | .hbm, ⟨22, _⟩ => ⟨S2048x6144, .f32⟩
  | .hbm, ⟨23, _⟩ => ⟨S2x8192x6144, .f32⟩
  | .hbm, ⟨24, _⟩ => ⟨S2x8192x3x16x128, .f32⟩
  | .hbm, ⟨25, _⟩ => ⟨S2x8192x1x16x128, .f32⟩
  | .hbm, ⟨26, _⟩ => ⟨S2x8192x16x128, .f32⟩
  | .hbm, ⟨27, _⟩ => ⟨S16, .f32⟩
  | .hbm, ⟨28, _⟩ => ⟨S_, .f32⟩
  | .hbm, ⟨29, _⟩ => ⟨S16, .f32⟩
  | .hbm, ⟨30, _⟩ => ⟨S16, .f32⟩
  | .hbm, ⟨31, _⟩ => ⟨S_, .f32⟩
  | .hbm, ⟨32, _⟩ => ⟨S16, .f32⟩
  | .hbm, ⟨33, _⟩ => ⟨S16, .f32⟩
  | .hbm, ⟨34, _⟩ => ⟨S_, .f32⟩
  | .hbm, ⟨35, _⟩ => ⟨S16, .f32⟩
  | .hbm, ⟨36, _⟩ => ⟨S16, .f32⟩
  | .hbm, ⟨37, _⟩ => ⟨S2x8192, .f32⟩
  | .hbm, ⟨38, _⟩ => ⟨S2x8192x1x1, .f32⟩
  | .hbm, ⟨39, _⟩ => ⟨S1x1x1x16, .f32⟩
  | .hbm, ⟨40, _⟩ => ⟨S2x8192x1x16, .f32⟩
  | .hbm, ⟨41, _⟩ => ⟨S2x8192x1x16, .f32⟩
  | .hbm, ⟨42, _⟩ => ⟨S2x8192x1x16, .f32⟩
  | .hbm, ⟨43, _⟩ => ⟨S2x8192x1x16, .f32⟩
  | .hbm, ⟨44, _⟩ => ⟨S2x8192x1x16, .f32⟩
  | .hbm, ⟨45, _⟩ => ⟨S2x8192x16x16, .f32⟩
  | .hbm, ⟨46, _⟩ => ⟨S2x8192x16x16, .f32⟩
  | .hbm, ⟨47, _⟩ => ⟨S2x8192x16x16, .f32⟩
  | .hbm, ⟨48, _⟩ => ⟨S2x8192x16x16, .f32⟩
  | .hbm, ⟨49, _⟩ => ⟨S2x8192x16x16, .f32⟩
  | .hbm, ⟨50, _⟩ => ⟨S2x8192x16x16, .f32⟩
  | .hbm, ⟨51, _⟩ => ⟨S2x8192x16x16, .f32⟩
  | .hbm, ⟨52, _⟩ => ⟨S2x8192x16x16, .f32⟩
  | .hbm, ⟨53, _⟩ => ⟨S2x8192x16x16, .f32⟩
  | .hbm, ⟨54, _⟩ => ⟨S2x8192x16x16, .f32⟩
  | .hbm, ⟨55, _⟩ => ⟨S2x8192x16x16, .f32⟩
  | .hbm, ⟨56, _⟩ => ⟨S2x8192x16x16, .f32⟩
  | .hbm, ⟨57, _⟩ => ⟨S2x8192x16x96, .f32⟩
  | .hbm, ⟨58, _⟩ => ⟨S2x8192x16x128, .f32⟩
  | .hbm, ⟨59, _⟩ => ⟨S_, .f32⟩
  | .hbm, ⟨60, _⟩ => ⟨S2x8192x16x128, .f32⟩
  | .hbm, ⟨61, _⟩ => ⟨S2x8192x16x128, .f32⟩
  | .hbm, ⟨62, _⟩ => ⟨S2x8192x1x16x128, .f32⟩
  | .hbm, ⟨63, _⟩ => ⟨S2x8192x16x128, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S_, .f32⟩
  | .hbm, ⟨72, _⟩ => ⟨S16, .f32⟩
  | .hbm, ⟨73, _⟩ => ⟨S16, .f32⟩
  | .hbm, ⟨74, _⟩ => ⟨S2x8192, .f32⟩
  | .hbm, ⟨75, _⟩ => ⟨S2x8192x1x1, .f32⟩
  | .hbm, ⟨76, _⟩ => ⟨S1x1x1x16, .f32⟩
  | .hbm, ⟨77, _⟩ => ⟨S2x8192x1x16, .f32⟩
  | .hbm, ⟨78, _⟩ => ⟨S2x8192x1x16, .f32⟩
  | .hbm, ⟨79, _⟩ => ⟨S2x8192x1x16, .f32⟩
  | .hbm, ⟨80, _⟩ => ⟨S2x8192x1x16, .f32⟩
  | .hbm, ⟨81, _⟩ => ⟨S2x8192x1x16, .f32⟩
  | .hbm, ⟨82, _⟩ => ⟨S2x8192x16x16, .f32⟩
  | .hbm, ⟨83, _⟩ => ⟨S2x8192x16x16, .f32⟩
  | .hbm, ⟨84, _⟩ => ⟨S2x8192x16x16, .f32⟩
  | .hbm, ⟨85, _⟩ => ⟨S2x8192x16x16, .f32⟩
  | .hbm, ⟨86, _⟩ => ⟨S2x8192x16x16, .f32⟩
  | .hbm, ⟨87, _⟩ => ⟨S2x8192x16x16, .f32⟩
  | .hbm, ⟨88, _⟩ => ⟨S2x8192x16x16, .f32⟩
  | .hbm, ⟨89, _⟩ => ⟨S2x8192x16x16, .f32⟩
  | .hbm, ⟨90, _⟩ => ⟨S2x8192x16x16, .f32⟩
  | .hbm, ⟨91, _⟩ => ⟨S2x8192x16x16, .f32⟩
  | .hbm, ⟨92, _⟩ => ⟨S2x8192x16x16, .f32⟩
  | .hbm, ⟨93, _⟩ => ⟨S2x8192x16x16, .f32⟩
  | .hbm, ⟨94, _⟩ => ⟨S2x8192x16x96, .f32⟩
  | .hbm, ⟨95, _⟩ => ⟨S2x8192x16x128, .f32⟩
  | .hbm, ⟨96, _⟩ => ⟨S2x8192x1x16x128, .f32⟩
  | .hbm, ⟨97, _⟩ => ⟨S2x8192x16x128, .f32⟩
  | .hbm, ⟨98, _⟩ => ⟨S16384x2048, .f32⟩
  | .hbm, ⟨99, _⟩ => ⟨S16384x2048, .f32⟩
  | .hbm, ⟨100, _⟩ => ⟨S16384x2048, .f32⟩
  | .hbm, ⟨101, _⟩ => ⟨S16384x6144, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_cst_3 : Ref sig .tc := ⟨.hbm, 31, rfl⟩
abbrev main_v23 : Ref sig .tc := ⟨.hbm, 32, rfl⟩
abbrev main_v24 : Ref sig .tc := ⟨.hbm, 33, rfl⟩
abbrev main_cst_4 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_5 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_6 : Ref sig .tc := ⟨.hbm, 65, rfl⟩
abbrev main_v54 : Ref sig .tc := ⟨.hbm, 66, rfl⟩
abbrev main_v55 : Ref sig .tc := ⟨.hbm, 67, rfl⟩
abbrev main_cst_7 : Ref sig .tc := ⟨.hbm, 68, rfl⟩
abbrev main_v56 : Ref sig .tc := ⟨.hbm, 69, rfl⟩
abbrev main_v57 : Ref sig .tc := ⟨.hbm, 70, rfl⟩
abbrev main_cst_8 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩

abbrev nD : Nat := 1
abbrev τ : Topo := Topo.v7x

variable {F : FTy → Type} [FloatOps F]
-- ==== Kernel3.lean ====
abbrev S2x8192x2048 : Shape := ⟨3, ![2, 8192, 2048]⟩
abbrev S16384x2048 : Shape := ⟨2, ![16384, 2048]⟩
abbrev S1x2048x2048 : Shape := ⟨3, ![1, 2048, 2048]⟩
abbrev S2048x2048 : Shape := ⟨2, ![2048, 2048]⟩
abbrev S512x2048 : Shape := ⟨2, ![512, 2048]⟩

abbrev nBuf : Space → Nat
  | .hbm => 7
  | .vmem => 7
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .f32⟩
  | .hbm, ⟨2, _⟩ => ⟨S1x2048x2048, .f32⟩
  | .hbm, ⟨3, _⟩ => ⟨S16384x2048, .f32⟩
  | .hbm, ⟨4, _⟩ => ⟨S2048x2048, .f32⟩
  | .hbm, ⟨5, _⟩ => ⟨S2048x2048, .bf16⟩
  | .hbm, ⟨6, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference3Ideal.lean ====
abbrev S2x8192x2048 : Shape := ⟨3, ![2, 8192, 2048]⟩
abbrev S16384x2048 : Shape := ⟨2, ![16384, 2048]⟩
abbrev S1x2048x2048 : Shape := ⟨3, ![1, 2048, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x2048, .f32⟩
  | .hbm, ⟨2, _⟩ => ⟨S1x2048x2048, .f32⟩
  | .hbm, ⟨3, _⟩ => ⟨S16384x2048, .f32⟩
  | .hbm, ⟨4, _⟩ => ⟨S2048x2048, .f32⟩
  | .hbm, ⟨5, _⟩ => ⟨S16384x2048, .f32⟩
  | .hbm, ⟨6, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S2x8192x2048 : Shape := ⟨3, ![2, 8192, 2048]⟩
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩
abbrev S512x2048 : Shape := ⟨2, ![512, 2048]⟩
abbrev S512x1024 : Shape := ⟨2, ![512, 1024]⟩
abbrev S1024x2048 : Shape := ⟨2, ![1024, 2048]⟩

abbrev nBuf : Space → Nat
  | .hbm => 8
  | .vmem => 10
  | .smem => 0
  | _ => 0

abbrev bufTy : (tb : Table) → Fin (tcTables nBuf tb) → BufTy
  | .hbm, ⟨0, _⟩ => ⟨S2x8192x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S16384x2048, .f32⟩
  | .hbm, ⟨5, _⟩ => ⟨S2048x2048, .f32⟩
  | .hbm, ⟨6, _⟩ => ⟨S2048x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S2x8192x2048 : Shape := ⟨3, ![2, 8192, 2048]⟩
abbrev S16384x1024 : Shape := ⟨2, ![16384, 1024]⟩
abbrev S1x2048x2048 : Shape := ⟨3, ![1, 2048, 2048]⟩
abbrev S16384x2048 : Shape := ⟨2, ![16384, 2048]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S16384x1024, .bf16⟩
  | .hbm, ⟨2, _⟩ => ⟨S16384x1024, .bf16⟩
  | .hbm, ⟨3, _⟩ => ⟨S1x2048x2048, .f32⟩
  | .hbm, ⟨4, _⟩ => ⟨S16384x1024, .f32⟩
  | .hbm, ⟨5, _⟩ => ⟨S16384x1024, .f32⟩
  | .hbm, ⟨6, _⟩ => ⟨S16384x2048, .f32⟩
  | .hbm, ⟨7, _⟩ => ⟨S16384x2048, .f32⟩
  | .hbm, ⟨8, _⟩ => ⟨S2048x2048, .f32⟩
  | .hbm, ⟨9, _⟩ => ⟨S16384x2048, .f32⟩
  | .hbm, ⟨10, _⟩ => ⟨S16384x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel5.lean ====
abbrev S2x8192x2048 : Shape := ⟨3, ![2, 8192, 2048]⟩
abbrev S2x2048 : Shape := ⟨2, ![2, 2048]⟩
abbrev S1x2048x6144 : Shape := ⟨3, ![1, 2048, 6144]⟩
abbrev S16384x2048 : Shape := ⟨2, ![16384, 2048]⟩
abbrev S1x2048 : Shape := ⟨2, ![1, 2048]⟩
abbrev S2048 : Shape := ⟨1, ![2048]⟩
abbrev S2048x6144 : Shape := ⟨2, ![2048, 6144]⟩
abbrev S16384x6144 : Shape := ⟨2, ![16384, 6144]⟩
abbrev S1024x2048 : Shape := ⟨2, ![1024, 2048]⟩
abbrev S2048x1024 : Shape := ⟨2, ![2048, 1024]⟩
abbrev S1024x1024 : Shape := ⟨2, ![1024, 1024]⟩
abbrev S256x2048 : Shape := ⟨2, ![256, 2048]⟩
abbrev S256 : Shape := ⟨1, ![256]⟩
abbrev S256x1 : Shape := ⟨2, ![256, 1]⟩
abbrev S256x1024 : Shape := ⟨2, ![256, 1024]⟩

abbrev nBuf : Space → Nat
  | .hbm => 10
  | .vmem => 8
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S1x2048x6144, .f32⟩
  | .hbm, ⟨3, _⟩ => ⟨S16384x2048, .f32⟩
  | .hbm, ⟨4, _⟩ => ⟨S1x2048, .f32⟩
  | .hbm, ⟨5, _⟩ => ⟨S2048, .f32⟩
  | .hbm, ⟨6, _⟩ => ⟨S2048x6144, .f32⟩
  | .hbm, ⟨7, _⟩ => ⟨S2048x6144, .bf16⟩
  | .hbm, ⟨8, _⟩ => ⟨S1x2048, .f32⟩
  | .hbm, ⟨9, _⟩ => ⟨S16384x6144, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S1024x1024, .f32⟩
  | .local _ .vmem, ⟨6, _⟩ => ⟨S1024x1024, .f32⟩
  | .local _ .vmem, ⟨7, _⟩ => ⟨S1024x2048, .bf16⟩
  | _, _ => ⟨S2x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 6], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S2x8192x2048 : Shape := ⟨3, ![2, 8192, 2048]⟩
abbrev S2x2048 : Shape := ⟨2, ![2, 2048]⟩
abbrev S1x2048x6144 : Shape := ⟨3, ![1, 2048, 6144]⟩
abbrev S1x2048 : Shape := ⟨2, ![1, 2048]⟩
abbrev S2048 : Shape := ⟨1, ![2048]⟩
abbrev S_ : Shape := ⟨0, ![]⟩
abbrev S2x8192 : Shape := ⟨2, ![2, 8192]⟩
abbrev S2x8192x1 : Shape := ⟨3, ![2, 8192, 1]⟩
abbrev S1x1x2048 : Shape := ⟨3, ![1, 1, 2048]⟩
abbrev S2048x6144 : Shape := ⟨2, ![2048, 6144]⟩
abbrev S2x8192x6144 : Shape := ⟨3, ![2, 8192, 6144]⟩
abbrev S16384x6144 : Shape := ⟨2, ![16384, 6144]⟩

abbrev nBuf : Space → Nat
  | .hbm => 24
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S2x2048, .f32⟩
  | .hbm, ⟨2, _⟩ => ⟨S1x2048x6144, .f32⟩
  | .hbm, ⟨3, _⟩ => ⟨S1x2048, .f32⟩
  | .hbm, ⟨4, _⟩ => ⟨S2048, .f32⟩
  | .hbm, ⟨5, _⟩ => ⟨S2x8192x2048, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x2048, .f32⟩
  | .hbm, ⟨17, _⟩ => ⟨S2x8192x2048, .f32⟩
  | .hbm, ⟨18, _⟩ => ⟨S1x1x2048, .f32⟩
  | .hbm, ⟨19, _⟩ => ⟨S2x8192x2048, .f32⟩
  | .hbm, ⟨20, _⟩ => ⟨S2x8192x2048, .f32⟩
  | .hbm, ⟨21, _⟩ => ⟨S2048x6144, .f32⟩
  | .hbm, ⟨22, _⟩ => ⟨S2x8192x6144, .f32⟩
  | .hbm, ⟨23, _⟩ => ⟨S16384x6144, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel6.lean ====
abbrev S16384x6144 : Shape := ⟨2, ![16384, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S4x1024 : Shape := ⟨2, ![4, 1024]⟩
abbrev S1024 : Shape := ⟨1, ![1024]⟩
abbrev S4x256x256 : Shape := ⟨3, ![4, 256, 256]⟩
abbrev S16384x1024 : Shape := ⟨2, ![16384, 1024]⟩
abbrev S256x1024 : Shape := ⟨2, ![256, 1024]⟩
abbrev S264x1024 : Shape := ⟨2, ![264, 1024]⟩
abbrev S8x1024 : Shape := ⟨2, ![8, 1024]⟩
abbrev S1x256 : Shape := ⟨2, ![1, 256]⟩
abbrev S256x256 : Shape := ⟨2, ![256, 256]⟩
abbrev S1x256x256 : Shape := ⟨3, ![1, 256, 256]⟩
abbrev S8x256 : Shape := ⟨2, ![8, 256]⟩

abbrev nBuf : Space → Nat
  | .hbm => 22
  | .vmem => 15
  | .smem => 0
  | _ => 0

abbrev bufTy : (tb : Table) → Fin (tcTables nBuf tb) → BufTy
  | .hbm, ⟨0, _⟩ => ⟨S16384x6144, .f32⟩
  | .hbm, ⟨1, _⟩ => ⟨S1x4x1024, .f32⟩
  | .hbm, ⟨2, _⟩ => ⟨S1x1024, .f32⟩
  | .hbm, ⟨3, _⟩ => ⟨S1x4x256x256, .f32⟩
  | .hbm, ⟨4, _⟩ => ⟨S1x1024, .f32⟩
  | .hbm, ⟨5, _⟩ => ⟨S1x4x256x256, .f32⟩
  | .hbm, ⟨6, _⟩ => ⟨S1x1024, .f32⟩
  | .hbm, ⟨7, _⟩ => ⟨S1x1024, .f32⟩
  | .hbm, ⟨8, _⟩ => ⟨S4x1024, .f32⟩
  | .hbm, ⟨9, _⟩ => ⟨S1024, .f32⟩
  | .hbm, ⟨10, _⟩ => ⟨S4x256x256, .f32⟩
  | .hbm, ⟨11, _⟩ => ⟨S4x256x256, .bf16⟩
  | .hbm, ⟨12, _⟩ => ⟨S1024, .f32⟩
  | .hbm, ⟨13, _⟩ => ⟨S4x256x256, .f32⟩
  | .hbm, ⟨14, _⟩ => ⟨S4x256x256, .bf16⟩
  | .hbm, ⟨15, _⟩ => ⟨S1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S16384x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x1024, .f32⟩
  | .local _ .vmem, ⟨5, _⟩ => ⟨S1x1024, .f32⟩
  | .local _ .vmem, ⟨6, _⟩ => ⟨S4x256x256, .bf16⟩
  | .local _ .vmem, ⟨7, _⟩ => ⟨S1x1024, .f32⟩
  | .local _ .vmem, ⟨8, _⟩ => ⟨S4x256x256, .bf16⟩
  | .local _ .vmem, ⟨9, _⟩ => ⟨S1x1024, .f32⟩
  | .local _ .vmem, ⟨10, _⟩ => ⟨S1x1024, .f32⟩
  | .local _ .vmem, ⟨11, _⟩ => ⟨S256x1024, .bf16⟩
  | .local _ .vmem, ⟨12, _⟩ => ⟨S256x1024, .bf16⟩
  | .local _ .vmem, ⟨13, _⟩ => ⟨S264x1024, .f32⟩
  | .local _ .vmem, ⟨14, _⟩ => ⟨S1x1024, .f32⟩
  | _, _ => ⟨S16384x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference6Ideal.lean ====
abbrev S16384x6144 : Shape := ⟨2, ![16384, 6144]⟩
abbrev S1x4x1024 : Shape := ⟨3, ![1, 4, 1024]⟩
abbrev S1x1024 : Shape := ⟨2, ![1, 1024]⟩
abbrev S1x4x256x256 : Shape := ⟨4, ![1, 4, 256, 256]⟩
abbrev S2x8192x6144 : Shape := ⟨3, ![2, 8192, 6144]⟩
abbrev S2x8192x1024 : Shape := ⟨3, ![2, 8192, 1024]⟩
abbrev S4x1024 : Shape := ⟨2, ![4, 1024]⟩
abbrev S1024 : Shape := ⟨1, ![1024]⟩
abbrev S_ : Shape := ⟨0, ![]⟩
abbrev S2x8195x1024 : Shape := ⟨3, ![2, 8195, 1024]⟩
abbrev S1x1x1024 : Shape := ⟨3, ![1, 1, 1024]⟩
abbrev S2x8192x4x256 : Shape := ⟨4, ![2, 8192, 4, 256]⟩
abbrev S4x256x256 : Shape := ⟨3, ![4, 256, 256]⟩
abbrev S4x256x2x8192 : Shape := ⟨4, ![4, 256, 2, 8192]⟩
abbrev S2x1024 : Shape := ⟨2, ![2, 1024]⟩
abbrev S8192x2x1024 : Shape := ⟨3, ![8192, 2, 1024]⟩
abbrev S1x2x1024 : Shape := ⟨3, ![1, 2, 1024]⟩
abbrev S16384x1024 : Shape := ⟨2, ![16384, 1024]⟩

abbrev nBuf : Space → Nat
  | .hbm => 161
  | .vmem => 0
  | .smem => 0
  | _ => 0

abbrev hbmTy0_0 (i : Nat) : BufTy := match i % 128 with
  | 0 => ⟨S16384x6144, .f32⟩
  | 1 => ⟨S1x4x1024, .f32⟩
  | 2 => ⟨S1x1024, .f32⟩
  | 3 => ⟨S1x4x256x256, .f32⟩
  | 4 => ⟨S1x1024, .f32⟩
  | 5 => ⟨S1x4x256x256, .f32⟩
  | 6 => ⟨S1x1024, .f32⟩
  | 7 => ⟨S1x1024, .f32⟩
  | 8 => ⟨S2x8192x6144, .f32⟩
  | 9 => ⟨S2x8192x1024, .f32⟩
  | 10 => ⟨S2x8192x1024, .f32⟩
  | 11 => ⟨S4x1024, .f32⟩
  | 12 => ⟨S1024, .f32⟩
  | 13 => ⟨S_, .i32⟩
  | 14 => ⟨S_, .f32⟩
  | 15 => ⟨S2x8195x1024, .f32⟩
  | 16 => ⟨S1x1024, .f32⟩
  | 17 => ⟨S1024, .f32⟩
  | 18 => ⟨S2x8192x1024, .f32⟩
  | 19 => ⟨S1x1x1024, .f32⟩
  | 20 => ⟨S2x8192x1024, .f32⟩
  | 21 => ⟨S2x8192x1024, .f32⟩
  | 22 => ⟨S1x1024, .f32⟩
  | 23 => ⟨S1024, .f32⟩
  | 24 => ⟨S2x8192x1024, .f32⟩
  | 25 => ⟨S1x1x1024, .f32⟩
  | 26 => ⟨S2x8192x1024, .f32⟩
  | 27 => ⟨S2x8192x1024, .f32⟩
  | 28 => ⟨S2x8192x1024, .f32⟩
  | 29 => ⟨S1x1024, .f32⟩
  | 30 => ⟨S1024, .f32⟩
  | 31 => ⟨S2x8192x1024, .f32⟩
  | 32 => ⟨S1x1x1024, .f32⟩
  | 33 => ⟨S2x8192x1024, .f32⟩
  | 34 => ⟨S2x8192x1024, .f32⟩
  | 35 => ⟨S2x8192x1024, .f32⟩
  | 36 => ⟨S1x1024, .f32⟩
  | 37 => ⟨S1024, .f32⟩
  | 38 => ⟨S2x8192x1024, .f32⟩
  | 39 => ⟨S1x1x1024, .f32⟩
  | 40 => ⟨S2x8192x1024, .f32⟩
  | 41 => ⟨S2x8192x1024, .f32⟩
  | 42 => ⟨S2x8192x1024, .f32⟩
  | 43 => ⟨S1x1x1024, .f32⟩
  | 44 => ⟨S2x8192x1024, .f32⟩
  | 45 => ⟨S2x8192x1024, .f32⟩
  | 46 => ⟨S2x8192x4x256, .f32⟩
  | 47 => ⟨S4x256x256, .f32⟩
  | 48 => ⟨S4x256x2x8192, .f32⟩
  | 49 => ⟨S2x8192x4x256, .f32⟩
  | 50 => ⟨S2x8192x1024, .f32⟩
  | 51 => ⟨S1024, .f32⟩
  | 52 => ⟨S1x1x1024, .f32⟩
  | 53 => ⟨S2x8192x1024, .f32⟩
  | 54 => ⟨S2x8192x1024, .f32⟩
  | 55 => ⟨S2x8192x1024, .f32⟩
  | 56 => ⟨S2x8192x1024, .f32⟩
  | 57 => ⟨S_, .f32⟩
  | 58 => ⟨S2x8192x1024, .f32⟩
  | 59 => ⟨S2x8192x1024, .f32⟩
  | 60 => ⟨S_, .f32⟩
  | 61 => ⟨S2x8192x1024, .f32⟩
  | 62 => ⟨S2x8192x1024, .f32⟩
  | 63 => ⟨S4x256x256, .f32⟩
  | 64 => ⟨S4x256x2x8192, .f32⟩
  | 65 => ⟨S2x8192x4x256, .f32⟩
  | 66 => ⟨S2x8192x1024, .f32⟩
  | 67 => ⟨S1024, .f32⟩
  | 68 => ⟨S1x1x1024, .f32⟩
  | 69 => ⟨S2x8192x1024, .f32⟩
  | 70 => ⟨S2x8192x1024, .f32⟩
  | 71 => ⟨S2x8192x1024, .f32⟩
  | 72 => ⟨S2x8192x1024, .f32⟩
  | 73 => ⟨S_, .f32⟩
  | 74 => ⟨S2x8192x1024, .f32⟩
  | 75 => ⟨S2x8192x1024, .f32⟩
  | 76 => ⟨S_, .f32⟩
  | 77 => ⟨S2x8192x1024, .f32⟩
  | 78 => ⟨S2x8192x1024, .f32⟩
  | 79 => ⟨S_, .f32⟩
  | 80 => ⟨S2x8192x1024, .f32⟩
  | 81 => ⟨S2x8192x1024, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S1024, .f32⟩
  | 89 => ⟨S1024, .i1⟩
  | 90 => ⟨S1024, .f32⟩
  | 91 => ⟨S1024, .f32⟩
  | 92 => ⟨S1024, .f32⟩
  | 93 => ⟨S1024, .f32⟩
  | 94 => ⟨S1024, .f32⟩
  | 95 => ⟨S1024, .f32⟩
  | 96 => ⟨S1024, .f32⟩
  | 97 => ⟨S1024, .f32⟩
  | 98 => ⟨S1x1x1024, .f32⟩
  | 99 => ⟨S2x8192x1024, .f32⟩
  | 100 => ⟨S2x8192x1024, .f32⟩
  | 101 => ⟨S2x8192x1024, .f32⟩
  | 102 => ⟨S_, .f32⟩
  | 103 => ⟨S2x8192x1024, .f32⟩
  | 104 => ⟨S2x8192x1024, .f32⟩
  | 105 => ⟨S2x8192x1024, .f32⟩
  | 106 => ⟨S2x8192x1024, .f32⟩
  | 107 => ⟨S2x8192x1024, .f32⟩
  | 108 => ⟨S2x8192x1024, .f32⟩
  | 109 => ⟨S2x8192x1024, .f32⟩
  | 110 => ⟨S_, .f32⟩
  | 111 => ⟨S2x1024, .f32⟩
  | 112 => ⟨S8192x2x1024, .f32⟩
  | 113 => ⟨S8192x2x1024, .f32⟩
  | 114 => ⟨S_, .f32⟩
  | 115 => ⟨S8192x2x1024, .f32⟩
  | 116 => ⟨S_, .i32⟩
  | 117 => ⟨S8192x2x1024, .f32⟩
  | 118 => ⟨S8192x2x1024, .f32⟩
  | 119 => ⟨S_, .i32⟩
  | 120 => ⟨S2x1024, .f32⟩
  | 121 => ⟨S8192x2x1024, .f32⟩
  | 122 => ⟨S_, .i32⟩
  | 123 => ⟨S_, .i1⟩
  | 124 => ⟨S_, .i32⟩
  | 125 => ⟨S_, .i32⟩
  | 126 => ⟨S1x2x1024, .f32⟩
  | 127 => ⟨S2x1024, .f32⟩
  | _ => ⟨S16384x6144, .f32⟩

abbrev hbmTy0_1 (i : Nat) : BufTy := match i % 128 with
  | 0 => ⟨S_, .i32⟩
  | 1 => ⟨S_, .i32⟩
  | 2 => ⟨S1x2x1024, .f32⟩
  | 3 => ⟨S2x1024, .f32⟩
  | 4 => ⟨S2x1024, .f32⟩
  | 5 => ⟨S2x1024, .f32⟩
  | 6 => ⟨S1x2x1024, .f32⟩
  | 7 => ⟨S_, .i32⟩
  | 8 => ⟨S_, .i32⟩
  | 9 => ⟨S8192x2x1024, .f32⟩
  | 10 => ⟨S_, .i32⟩
  | 11 => ⟨S_, .i32⟩
  | 12 => ⟨S2x8192x1024, .f32⟩
  | 13 => ⟨S2x8192x1024, .f32⟩
  | 14 => ⟨S2x8192x1024, .f32⟩
  | 15 => ⟨S_, .f32⟩
  | 16 => ⟨S2x8192x1024, .f32⟩
  | 17 => ⟨S2x8192x1024, .f32⟩
  | 18 => ⟨S2x8192x1024, .f32⟩
  | 19 => ⟨S_, .f32⟩
  | 20 => ⟨S2x8192x1024, .f32⟩
  | 21 => ⟨S2x8192x1024, .f32⟩
  | 22 => ⟨S2x8192x1024, .f32⟩
  | 23 => ⟨S_, .f32⟩
  | 24 => ⟨S2x8192x1024, .f32⟩
  | 25 => ⟨S2x8192x1024, .f32⟩
  | 26 => ⟨S_, .f32⟩
  | 27 => ⟨S2x8192x1024, .f32⟩
  | 28 => ⟨S2x8192x1024, .f32⟩
  | 29 => ⟨S2x8192x1024, .f32⟩
  | 30 => ⟨S2x8192x1024, .f32⟩
  | 31 => ⟨S16384x1024, .f32⟩
  | 32 => ⟨S16384x1024, .bf16⟩
  | _ => ⟨S16384x6144, .f32⟩

abbrev hbmTy (i : Nat) : BufTy := match i / 128 with
  | 0 => hbmTy0_0 i
  | 1 => hbmTy0_1 i
  | _ => ⟨S16384x6144, .f32⟩

abbrev bufTy : (tb : Table) → Fin (tcTables nBuf tb) → BufTy
  | .hbm, ⟨i, _⟩ => hbmTy i
  | _, _ => ⟨S16384x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst : Ref sig .tc := ⟨.hbm, 57, rfl⟩
abbrev main_v47 : Ref sig .tc := ⟨.hbm, 58, rfl⟩
abbrev main_v48 : Ref sig .tc := ⟨.hbm, 59, rfl⟩
abbrev main_cst_0 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_cst_1 : Ref sig .tc := ⟨.hbm, 73, rfl⟩
abbrev main_v61 : Ref sig .tc := ⟨.hbm, 74, rfl⟩
abbrev main_v62 : Ref sig .tc := ⟨.hbm, 75, rfl⟩
abbrev main_cst_2 : Ref sig .tc := ⟨.hbm, 76, rfl⟩
abbrev main_v63 : Ref sig .tc := ⟨.hbm, 77, rfl⟩
abbrev main_v64 : Ref sig .tc := ⟨.hbm, 78, rfl⟩
abbrev main_cst_3 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_call1_cst : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_call1_v3 : Ref sig .tc := ⟨.hbm, 88, rfl⟩
abbrev main_call1_v4 : Ref sig .tc := ⟨.hbm, 89, rfl⟩
abbrev main_call1_v5 : Ref sig .tc := ⟨.hbm, 90, rfl⟩
abbrev main_call1_v6 : Ref sig .tc := ⟨.hbm, 91, rfl⟩
abbrev main_call1_v7 : Ref sig .tc := ⟨.hbm, 92, rfl⟩
abbrev main_call1_v8 : Ref sig .tc := ⟨.hbm, 93, rfl⟩
abbrev main_call1_v9 : Ref sig .tc := ⟨.hbm, 94, rfl⟩
abbrev main_call1_v10 : Ref sig .tc := ⟨.hbm, 95, rfl⟩
abbrev main_call1_v11 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_4 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_cst_5 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_6 : Ref sig .tc := ⟨.hbm, 114, rfl⟩
abbrev main_v84 : Ref sig .tc := ⟨.hbm, 115, rfl⟩
abbrev main_c_7 : Ref sig .tc := ⟨.hbm, 116, rfl⟩
abbrev main_v85_0 : Ref sig .tc := ⟨.hbm, 117, rfl⟩
abbrev main_v85_1 : Ref sig .tc := ⟨.hbm, 118, rfl⟩
abbrev main_v85_2 : Ref sig .tc := ⟨.hbm, 119, rfl⟩
abbrev main_v85_3 : Ref sig .tc := ⟨.hbm, 120, rfl⟩
abbrev main_v85_4 : Ref sig .tc := ⟨.hbm, 121, rfl⟩
abbrev main_while0c_c_16 : Ref sig .tc := ⟨.hbm, 122, rfl⟩
abbrev main_while0c_v103 : Ref sig .tc := ⟨.hbm, 123, rfl⟩
abbrev main_while0b_call2_c : Ref sig .tc := ⟨.hbm, 124, rfl⟩
abbrev main_while0b_call2_c_0 : Ref sig .tc := ⟨.hbm, 125, rfl⟩
abbrev main_while0b_call2_v0 : Ref sig .tc := ⟨.hbm, 126, rfl⟩
abbrev main_while0b_v103 : Ref sig .tc := ⟨.hbm, 127, rfl⟩
abbrev main_while0b_call3_c : Ref sig .tc := ⟨.hbm, 128, rfl⟩
abbrev main_while0b_call3_c_0 : Ref sig .tc := ⟨.hbm, 129, rfl⟩
abbrev main_while0b_call3_v0 : Ref sig .tc := ⟨.hbm, 130, rfl⟩
abbrev main_while0b_v104 : Ref sig .tc := ⟨.hbm, 131, rfl⟩
abbrev main_while0b_v105 : Ref sig .tc := ⟨.hbm, 132, rfl⟩
abbrev main_while0b_v106 : Ref sig .tc := ⟨.hbm, 133, rfl⟩
abbrev main_while0b_call4_v0 : Ref sig .tc := ⟨.hbm, 134, rfl⟩
abbrev main_while0b_call4_c : Ref sig .tc := ⟨.hbm, 135, rfl⟩
abbrev main_while0b_call4_c_0 : Ref sig .tc := ⟨.hbm, 136, rfl⟩
abbrev main_while0b_v107 : Ref sig .tc := ⟨.hbm, 137, rfl⟩
abbrev main_while0b_c_16 : Ref sig .tc := ⟨.hbm, 138, rfl⟩
abbrev main_while0b_v108 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_cst_8 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_cst_9 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_cst_10 : Ref sig .tc := ⟨.hbm, 151, rfl⟩
abbrev main_v95 : Ref sig .tc := ⟨.hbm, 152, rfl⟩
abbrev main_v96 : Ref sig .tc := ⟨.hbm, 153, rfl⟩
abbrev main_cst_11 : Ref sig .tc := ⟨.hbm, 154, rfl⟩
abbrev main_v97 : Ref sig .tc := ⟨.hbm, 155, rfl⟩
abbrev main_v98 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩

abbrev nD : Nat := 1
abbrev τ : Topo := Topo.v7x

variable {F : FTy → Type} [FloatOps F]

abbrev main_while0_count : Scf.Loop 32 := ⟨0#32, 8192#32, 1#32⟩
-- ==== Proof.LruMath.lean ====
/- The linear recurrence `h r = u r + a r * h (r - 1)`: the doubling inside groups of eight rows, the chain of groups
   inside a block, and the restart at a block. Below it the gates of a row over the extended reals. -/
module

public import Idealize.ShloMosaic.PureOps.Ideal
public import Idealize.ShloMosaic.Lib.Pointwise

@[expose] public section

noncomputable section

namespace Cert.LruMath

open Idealize.ShloMosaic

/-- The recurrence from the value `c` before row 0. -/
def scan (a u : ℕ → EReal) (c : EReal) : ℕ → EReal
  | 0 => u 0 + a 0 * c
  | n + 1 => u (n + 1) + a (n + 1) * scan a u c n

/-- One doubling of the additive part inside groups of eight rows. -/
def dblU (d : ℕ) (a u : ℕ → EReal) (r : ℕ) : EReal := u r + a r * (if d ≤ r % 8 then u (r - d) else 0)

/-- One doubling of the multiplicative part. -/
def dblA (d : ℕ) (a : ℕ → EReal) (r : ℕ) : EReal := a r * (if d ≤ r % 8 then a (r - d) else 1)

/-- The additive part after the three doublings. -/
def grpU (a u : ℕ → EReal) : ℕ → EReal := dblU 4 (dblA 2 (dblA 1 a)) (dblU 2 (dblA 1 a) (dblU 1 a u))

/-- The multiplicative part after the three doublings. -/
def grpA (a : ℕ → EReal) : ℕ → EReal := dblA 4 (dblA 2 (dblA 1 a))

/-- A factor of the recurrence lies between 0 and 1. -/
def Unit01 (a : ℕ → EReal) : Prop := ∀ r, 0 ≤ a r ∧ a r ≤ 1

theorem mul01 {x y : EReal} (hx : 0 ≤ x ∧ x ≤ 1) (hy : 0 ≤ y ∧ y ≤ 1) : 0 ≤ x * y ∧ x * y ≤ 1 :=
  ⟨mul_nonneg hx.1 hy.1, by
    calc x * y ≤ 1 * 1 := mul_le_mul hx.2 hy.2 hy.1 zero_le_one
      _ = 1 := one_mul 1⟩

theorem dblA_unit {a : ℕ → EReal} (h : Unit01 a) (d : ℕ) : Unit01 (dblA d a) := fun r => by
  unfold dblA
  split
  · exact mul01 (h _) (h _)
  · rw [mul_one]; exact h r

theorem ne_top01 {x : EReal} (hx : 0 ≤ x ∧ x ≤ 1) : x ≠ ⊤ := fun h => by
  rw [h] at hx
  exact absurd hx.2 (by decide)

theorem mul_add01 {x : EReal} (hx : 0 ≤ x ∧ x ≤ 1) (y z : EReal) : x * (y + z) = x * y + x * z :=
  EReal.left_distrib_of_nonneg_of_ne_top hx.1 (ne_top01 hx) y z

/-- A doubling composes the affine map of a row with that of the row `d` before it. -/
theorem dbl_apply {a : ℕ → EReal} (h : Unit01 a) (u : ℕ → EReal) (d r : ℕ) (c : EReal) :
    dblU d a u r + dblA d a r * c = u r + a r * (if d ≤ r % 8 then u (r - d) + a (r - d) * c else c) := by
  unfold dblU dblA
  by_cases hd : d ≤ r % 8
  · simp only [if_pos hd]
    rw [mul_add01 (h r), mul_assoc, add_assoc]
  · simp only [if_neg hd, mul_zero, add_zero, mul_one]

/-- After the three doublings a row of a group is the recurrence over the group. -/
theorem grp_apply {a : ℕ → EReal} (h : Unit01 a) (u : ℕ → EReal) (g s : ℕ) (hs : s < 8) (c : EReal) :
    grpU a u (8 * g + s) + grpA a (8 * g + s) * c = scan (fun r => a (8 * g + r)) (fun r => u (8 * g + r)) c s := by
  have hm : ∀ k, k < 8 → (8 * g + k) % 8 = k := fun k hk => by omega
  unfold grpU grpA
  have h1 := dblA_unit h 1
  have h2 := dblA_unit h1 2
  rw [dbl_apply h2]
  simp only [dbl_apply h1, dbl_apply h]
  interval_cases s <;>
    simp [scan, Nat.add_mod, Nat.add_sub_assoc]

theorem scan_succ (a u : ℕ → EReal) (c : EReal) (n : ℕ) :
    scan a u c (n + 1) = u (n + 1) + a (n + 1) * scan a u c n := rfl

/-- The recurrence restarted at row `b` with the value of the row before. -/
theorem scan_shift (a u : ℕ → EReal) (c : EReal) (b : ℕ) (hb : 0 < b) :
    ∀ s, scan (fun r => a (b + r)) (fun r => u (b + r)) (scan a u c (b - 1)) s = scan a u c (b + s)
  | 0 => by
    obtain ⟨b, rfl⟩ := Nat.exists_eq_succ_of_ne_zero hb.ne'
    rfl
  | s + 1 => by
    rw [scan_succ, scan_shift a u c b hb s]
    rfl

/-- The chain of groups is the recurrence over the block. -/
theorem chain {a : ℕ → EReal} (h : Unit01 a) (u : ℕ → EReal) (c : EReal) (hs : ℕ → ℕ → EReal)
    (h0 : ∀ s, s < 8 → hs 0 s = grpU a u s + grpA a s * c)
    (h1 : ∀ g s, g < 31 → s < 8 →
      hs (g + 1) s = grpU a u (8 * (g + 1) + s) + grpA a (8 * (g + 1) + s) * hs g 7) :
    ∀ g s, g < 32 → s < 8 → hs g s = scan a u c (8 * g + s)
  | 0, s, _, hs8 => by
    rw [h0 s hs8]
    have := grp_apply h u 0 s hs8 c
    simpa using this
  | g + 1, s, hg, hs8 => by
    rw [h1 g s (by omega) hs8, chain h u c hs h0 h1 g 7 (by omega) (by omega), grp_apply h u _ _ hs8,
      ← scan_shift a u c (8 * (g + 1)) (by omega) s]
    rfl

/-! ## A row's gates -/

/-- A column's head. -/
def hd (d : Fin 1024) : Fin 4 := ⟨d.val / 256, by have := d.isLt; omega⟩

/-- A column's place in its head. -/
def ln (d : Fin 1024) : Fin 256 := ⟨d.val % 256, Nat.mod_lt _ (by decide)⟩

/-- Column `k` of head `h`. -/
def col (h : Fin 4) (k : Fin 256) : Fin 1024 := ⟨256 * h.val + k.val, by have := h.isLt; have := k.isLt; omega⟩

theorem hd_col (h : Fin 4) (k : Fin 256) : hd (col h k) = h := Fin.ext (by
  have := k.isLt
  unfold hd col; dsimp only; omega)

theorem ln_col (h : Fin 4) (k : Fin 256) : ln (col h k) = k := Fin.ext (by
  have := k.isLt
  unfold ln col; dsimp only; omega)

theorem col_hd_ln (d : Fin 1024) : col (hd d) (ln d) = d := Fin.ext (by
  unfold hd ln col; dsimp only; omega)

/-- The weights: the convolution's, the two gates', the decay's. -/
structure Par where
  w : Fin 4 → Fin 1024 → EReal
  b : Fin 1024 → EReal
  wa : Fin 4 → Fin 256 → Fin 256 → EReal
  ba : Fin 1024 → EReal
  wi : Fin 4 → Fin 256 → Fin 256 → EReal
  bi : Fin 1024 → EReal
  lam : Fin 1024 → EReal

/-- The convolution of rows `n … n + 3`. -/
def conv (P : Par) (X : ℕ → Fin 1024 → EReal) (n : ℕ) (d : Fin 1024) : EReal :=
  P.b d + P.w 0 d * X n d + P.w 1 d * X (n + 1) d + P.w 2 d * X (n + 2) d + P.w 3 d * X (n + 3) d

/-- A gate of a head's columns. -/
def gate (xs w : Fin 256 → EReal) (b : EReal) : EReal := Ideal.logistic (∑ k, xs k * w k + b)

/-- The softplus of the negated decay parameter. -/
def sp (l : EReal) : EReal := max (-l) 0 + Ideal.log1p (Ideal.exp (-(max (-l) (- -l))))

/-- The logarithm of the decay. -/
def la (P : Par) (X : ℕ → Fin 1024 → EReal) (n : ℕ) (d : Fin 1024) : EReal :=
  Ideal.ofBits .f32 0xC1000000#32
    * gate (fun k => conv P X n (col (hd d) k)) (fun k => P.wa (hd d) k (ln d)) (P.ba d) * sp (P.lam d)

/-- The input gate. -/
def gi (P : Par) (X : ℕ → Fin 1024 → EReal) (n : ℕ) (d : Fin 1024) : EReal :=
  gate (fun k => conv P X n (col (hd d) k)) (fun k => P.wi (hd d) k (ln d)) (P.bi d)

/-- The decay. -/
def da (P : Par) (X : ℕ → Fin 1024 → EReal) (n : ℕ) (d : Fin 1024) : EReal := Ideal.exp (la P X n d)

/-- The gated input of the recurrence. -/
def du (P : Par) (X : ℕ → Fin 1024 → EReal) (n : ℕ) (d : Fin 1024) : EReal :=
  Ideal.sqrt (-Ideal.tanh (la P X n d) * (da P X n d * da P X n d + 1)) * (gi P X n d * conv P X n d)

/-- The recurrence over the rows of a column. -/
def lru (P : Par) (X : ℕ → Fin 1024 → EReal) (c : EReal) (n : ℕ) (d : Fin 1024) : EReal :=
  scan (fun r => da P X r d) (fun r => du P X r d) c n

theorem exp_nonneg (x : EReal) : 0 ≤ Ideal.exp x := by
  induction x with
  | bot => exact le_rfl
  | top => exact le_top
  | coe r => exact EReal.coe_nonneg.2 (Real.exp_pos r).le

theorem exp_le_one {x : EReal} (h : x ≤ 0) : Ideal.exp x ≤ 1 := by
  induction x with
  | bot => exact zero_le_one
  | top => exact absurd h (by decide)
  | coe r => exact EReal.coe_le_coe_iff.2 (Real.exp_le_one_iff.2 (EReal.coe_nonpos.1 h))

theorem exp_bot : Ideal.exp ⊥ = 0 := rfl

theorem exp_top : Ideal.exp ⊤ = ⊤ := rfl

theorem tanh_bot : Ideal.tanh ⊥ = -1 := rfl

/-- A gate lies between 0 and 1. -/
theorem logistic01 (x : EReal) : 0 ≤ Ideal.logistic x ∧ Ideal.logistic x ≤ 1 := by
  induction x with
  | bot =>
    have : Ideal.logistic ⊥ = 0 := by
      rw [Ideal.logistic, EReal.neg_bot, exp_top, EReal.add_top_of_ne_bot (by decide), Ideal.div, if_neg (by decide), EReal.inv_top, mul_zero]
    rw [this]; exact ⟨le_rfl, zero_le_one⟩
  | top =>
    have : Ideal.logistic ⊤ = 1 := by
      rw [Ideal.logistic, EReal.neg_top, exp_bot, add_zero, Ideal.div, if_neg one_ne_zero, inv_one, mul_one]
    rw [this]; exact ⟨zero_le_one, le_rfl⟩
  | coe r =>
    have hp := Real.exp_pos (-r)
    have : Ideal.logistic (r : EReal) = ((1 / (1 + Real.exp (-r)) : ℝ) : EReal) := by
      have h1 : Ideal.exp (-(r : EReal)) = ((Real.exp (-r) : ℝ) : EReal) := rfl
      have h2 : (1 : EReal) + ((Real.exp (-r) : ℝ) : EReal) = ((1 + Real.exp (-r) : ℝ) : EReal) := rfl
      rw [Ideal.logistic, h1, h2, Ideal.div, if_neg (EReal.coe_ne_zero.2 (by positivity)), ← EReal.coe_inv, one_mul, one_div]
    rw [this]
    refine ⟨EReal.coe_nonneg.2 (by positivity), EReal.coe_le_coe_iff.2 ?_⟩
    rw [div_le_one (by positivity)]
    linarith

theorem log1p_nonneg {x : EReal} (h : 0 ≤ x) : 0 ≤ Ideal.log1p x := by
  induction x with
  | bot => exact absurd h (by decide)
  | top => exact le_top
  | coe r =>
    have hr : 0 ≤ r := EReal.coe_nonneg.1 h
    have h2 : (1 : EReal) + (r : EReal) = ((1 + r : ℝ) : EReal) := rfl
    rw [Ideal.log1p, h2]
    show 0 ≤ (if 1 + r ≤ 0 then (⊥ : EReal) else (Real.log (1 + r) : EReal))
    rw [if_neg (by linarith)]
    exact EReal.coe_nonneg.2 (Real.log_nonneg (by linarith))

theorem sp_nonneg (l : EReal) : 0 ≤ sp l := add_nonneg (le_max_right _ _) (log1p_nonneg (exp_nonneg _))

/-- The literal of the decay. -/
theorem lit8 : Ideal.ofBits .f32 0xC1000000#32 = -((8 : ℝ) : EReal) := by
  simp [Ideal.ofBits, Ideal.ieee, -EReal.coe_mul]
  norm_num

theorem la_nonpos (P : Par) (X : ℕ → Fin 1024 → EReal) (n : ℕ) (d : Fin 1024) : la P X n d ≤ 0 := by
  unfold la
  rw [lit8, neg_mul, neg_mul]
  refine EReal.neg_le_zero.2 (mul_nonneg (mul_nonneg (EReal.coe_nonneg.2 (by norm_num)) (logistic01 _).1) (sp_nonneg _))

theorem da_unit (P : Par) (X : ℕ → Fin 1024 → EReal) (n : ℕ) (d : Fin 1024) : 0 ≤ da P X n d ∧ da P X n d ≤ 1 :=
  ⟨exp_nonneg _, exp_le_one (la_nonpos P X n d)⟩

theorem scan_congr {a a' u u' : ℕ → EReal} {c : EReal} {n : ℕ} (ha : ∀ r, r ≤ n → a r = a' r)
    (hu : ∀ r, r ≤ n → u r = u' r) : scan a u c n = scan a' u' c n := by
  induction n with
  | zero => simp only [scan, ha 0 le_rfl, hu 0 le_rfl]
  | succ n ih =>
    rw [scan_succ, scan_succ, ih (fun r hr => ha r (by omega)) (fun r hr => hu r (by omega)), ha _ le_rfl, hu _ le_rfl]

/-- The factor of the recurrence's input in its plain form. -/
theorem expm1_eq {x : EReal} (h : x ≤ 0) :
    -Ideal.tanh x * (Ideal.exp x * Ideal.exp x + 1) = -(Ideal.exp (((2 : ℝ) : EReal) * x) - 1) := by
  induction x with
  | bot =>
    have h2 : ((2 : ℝ) : EReal) * ⊥ = ⊥ := EReal.coe_mul_bot_of_pos (by norm_num)
    rw [h2, exp_bot, tanh_bot, mul_zero, zero_add, mul_one, zero_sub]
  | top => exact absurd h (by decide)
  | coe r =>
    have h1 : Ideal.exp (r : EReal) = ((Real.exp r : ℝ) : EReal) := rfl
    have h2 : Ideal.exp (((2 : ℝ) : EReal) * (r : EReal)) = ((Real.exp (2 * r) : ℝ) : EReal) := rfl
    have h3 : Ideal.tanh (r : EReal) = ((Real.tanh r : ℝ) : EReal) := rfl
    rw [h1, h2, h3]
    have : -Real.tanh r * (Real.exp r * Real.exp r + 1) = -(Real.exp (2 * r) - 1) := by
      have hp := Real.exp_pos r
      rw [Real.tanh_eq_sinh_div_cosh, Real.sinh_eq, Real.cosh_eq, Real.exp_neg, two_mul, Real.exp_add]
      field_simp
    exact_mod_cast congrArg (fun z : ℝ => (z : EReal)) this

/-- The activation of the gated branch. -/
def gelu (y : EReal) : EReal :=
  Ideal.ofBits .f32 0x3F000000#32 * y
    * (1 + Ideal.tanh (Ideal.ofBits .f32 0x3F4C422A#32 * (y + Ideal.ofBits .f32 0x3D372713#32 * (y * y * y))))

end Cert.LruMath
-- ==== Proof.LruHead.lean ====
/- A head's columns of one grid point of the recurrence call: the gates, the scan by doubling and the chain of groups,
   read at a row and a column. -/
module

public import proofs.«01_k».proof.Proof.Gen.Kernel6Ideal.Skeleton
public import Idealize.ShloMosaic.Lib.Pipeline.ValueKit
public import proofs.«01_k».proof.Proof.LruMath
public import Idealize.ShloMosaic.Lib.Pointwise

@[expose] public section

set_option maxRecDepth 16384

noncomputable section

namespace Cert.LruHead

open Cert.LruMath Cert.Kernel6Ideal Cert.Kernel6Ideal.Gen Idealize.ShloMosaic Idealize.ShloMosaic.TcCoe
/-- A head's loads: the convolution's weights and rows, the two gates' weights and biases, the decay. -/
structure Loads where
  cb : Vec Ideal S1x256 .f32
  w0 : Vec Ideal S1x256 .f32
  X0 : Vec Ideal S256x256 .f32
  w1 : Vec Ideal S1x256 .f32
  X1 : Vec Ideal S256x256 .f32
  w2 : Vec Ideal S1x256 .f32
  X2 : Vec Ideal S256x256 .f32
  w3 : Vec Ideal S1x256 .f32
  X3 : Vec Ideal S256x256 .f32
  wa : Vec Ideal S1x256x256 .bf16
  ba : Vec Ideal S1x256 .f32
  wi : Vec Ideal S1x256x256 .bf16
  bi : Vec Ideal S1x256 .f32
  lam : Vec Ideal S1x256 .f32

/-- The first three taps of the convolution. -/
def Loads.P (l : Loads) : FVec Ideal S256x256 .f32 := k0_pay6 l.cb l.w0 l.X0 l.w1 l.X1 l.w2 l.X2

/-- The convolved rows. -/
def Loads.xc (l : Loads) : FVec Ideal S256x256 .f32 := k0_pay7 l.P l.w3 l.X3

/-- The input gate. -/
def Loads.gi (l : Loads) : FVec Ideal S256x256 .f32 := k0_pay9 l.P l.w3 l.X3 l.wi l.bi

/-- The logarithm of the decay. -/
def Loads.la (l : Loads) : FVec Ideal S256x256 .f32 := k0_pay10 l.P l.w3 l.X3 l.wa l.ba l.lam

/-- The decay. -/
def Loads.a (l : Loads) : FVec Ideal S256x256 .f32 := k0_pay11 l.P l.w3 l.X3 l.wa l.ba l.lam

/-- The additive part after the doublings. -/
def Loads.U (l : Loads) : FVec Ideal S256x256 .f32 :=
  k0_pay20 (k0_pay16 l.xc l.gi l.la l.a) (k0_pay19 l.xc l.gi l.la l.a)

/-- The multiplicative part after the doublings. -/
def Loads.A (l : Loads) : FVec Ideal S256x256 .f32 := k0_pay21 (k0_pay17 l.a) k0_pay18

/-- Rows `8 g ..` of a block. -/
theorem fits (g : ℕ) : Shape.Slices S256x256 ![8 * (g % 32), 0] S8x256 := by
  have := Nat.mod_lt g (show 0 < 32 by decide)
  refine ⟨rfl, fun a => ?_⟩
  fin_cases a <;> simp <;> omega

/-- The group of eight rows `g` from the row before it. -/
def grp (U A : FVec Ideal S256x256 .f32) (g : ℕ) (p : FVec Ideal S1x256 .f32) : FVec Ideal S8x256 .f32 :=
  addf (extractStridedSlice S8x256 ![8 * (g % 32), 0] U (fits g))
    (mulf (extractStridedSlice S8x256 ![8 * (g % 32), 0] A (fits g)) (broadcastTo S8x256 p broadcasts_S1x256_S8x256))

/-- The last row of a group. -/
def last (h : FVec Ideal S8x256 .f32) : FVec Ideal S1x256 .f32 :=
  extractStridedSlice S1x256 ![7, 0] h slices_S8x256_o7_0_S1x256

/-- The chain of groups. -/
def hV (U A : FVec Ideal S256x256 .f32) (car : Vec Ideal S1x256 .f32) : ℕ → FVec Ideal S8x256 .f32
  | 0 => grp U A 0 car
  | g + 1 => grp U A (g + 1) (last (hV U A car g))

/-- The groups side by side. -/
def allV (U A : FVec Ideal S256x256 .f32) (car : Vec Ideal S1x256 .f32) : FVec Ideal S256x256 .f32 :=
  concatenate S256x256 0 (List.ofFn fun g : Fin 32 => (⟨S8x256, hV U A car g.val⟩ : (s : Shape) × (s.Idx → EReal)))
    concatenates_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S8x256_S256x256_d0

/-- The carry a head stores. -/
def carV (U A : FVec Ideal S256x256 .f32) (car : Vec Ideal S1x256 .f32) : FVec Ideal S1x256 .f32 :=
  shapeCast S1x256 (last (hV U A car 31)) shapeCasts_S1x256_S1x256

/-- The gated branch, as the kernel computes its activation. -/
def geluV (y : Vec Ideal S256x256 .f32) : FVec Ideal S256x256 .f32 :=
  mulf (mulf (broadcast S256x256 (Scalar.ofBits .f32 0x3F000000#32)) y)
    (addf (broadcast S256x256 (Scalar.ofBits .f32 0x3F800000#32))
      (tanh (mulf (broadcast S256x256 (Scalar.ofBits .f32 0x3F4C422A#32))
        (addf y (mulf (broadcast S256x256 (Scalar.ofBits .f32 0x3D372713#32)) (mulf (mulf y y) y))))))

/-- The rows a head stores. -/
def outV (U A : FVec Ideal S256x256 .f32) (car : Vec Ideal S1x256 .f32) (y : Vec Ideal S256x256 .f32) :
    FVec Ideal S256x256 .bf16 :=
  truncf .bf16 (mulf (allV U A car) (geluV y)) bitsLt_bf16_f32

theorem xc_apply (l : Loads) (r c : Fin 256) : l.xc (ix2 r c)
    = l.cb (ix2 0 c) + l.w0 (ix2 0 c) * l.X0 (ix2 r c) + l.w1 (ix2 0 c) * l.X1 (ix2 r c)
      + l.w2 (ix2 0 c) * l.X2 (ix2 r c) + l.w3 (ix2 0 c) * l.X3 (ix2 r c) := by
  unfold Loads.xc Loads.P
  unfold_payloads
  pointwise

theorem gi_apply (l : Loads) (r c : Fin 256) : l.gi (ix2 r c)
    = gate (fun k => l.xc (ix2 r k)) (fun k => l.wi (ix3 0 k c)) (l.bi (ix2 0 c)) := by
  unfold Loads.gi gate
  simp only [xc_apply]
  unfold Loads.P
  unfold_payloads
  pointwise

theorem la_apply (l : Loads) (r c : Fin 256) : l.la (ix2 r c)
    = Ideal.ofBits .f32 0xC1000000#32
      * gate (fun k => l.xc (ix2 r k)) (fun k => l.wa (ix3 0 k c)) (l.ba (ix2 0 c)) * sp (l.lam (ix2 0 c)) := by
  unfold Loads.la gate sp
  simp only [xc_apply]
  unfold Loads.P
  unfold_payloads
  pointwise
  simp only [zero_sub]
  rfl

theorem a_apply (l : Loads) (r c : Fin 256) : l.a (ix2 r c) = Ideal.exp (l.la (ix2 r c)) := rfl

/-- One doubling of the additive part. -/
def dU (d : BitVec 32) (A U : FVec Ideal S256x256 .f32) : FVec Ideal S256x256 .f32 :=
  addf U (mulf A (select (cmpi .sge k0_pay12 (broadcast S256x256 d)) (dynamicRotate 0 d none U rotates_S256x256_d0)
    (broadcast S256x256 (Scalar.ofBits .f32 0x00000000#32))))

/-- One doubling of the multiplicative part. -/
def dA (d : BitVec 32) (A : FVec Ideal S256x256 .f32) : FVec Ideal S256x256 .f32 :=
  mulf A (select (cmpi .sge k0_pay12 (broadcast S256x256 d)) (dynamicRotate 0 d none A rotates_S256x256_d0)
    (broadcast S256x256 (Scalar.ofBits .f32 0x3F800000#32)))

/-- The input of the recurrence. -/
def Loads.u (l : Loads) : FVec Ideal S256x256 .f32 :=
  mulf (sqrt (mulf (subf (broadcast S256x256 (Scalar.ofBits .f32 0x00000000#32)) (tanh l.la))
    (addf (mulf l.a l.a) (broadcast S256x256 (Scalar.ofBits .f32 0x3F800000#32))))) (mulf l.gi l.xc)

theorem u_apply (l : Loads) (r c : Fin 256) : l.u (ix2 r c)
    = Ideal.sqrt (-Ideal.tanh (l.la (ix2 r c)) * (l.a (ix2 r c) * l.a (ix2 r c) + 1)) * (l.gi (ix2 r c) * l.xc (ix2 r c)) := by
  unfold Loads.u
  pointwise
  simp only [zero_sub]

theorem U_eq (l : Loads) : l.U = dU 4#32 (dA 2#32 (dA 1#32 l.a)) (dU 2#32 (dA 1#32 l.a) (dU 1#32 l.a l.u)) := rfl

theorem A_eq (l : Loads) : l.A = dA 4#32 (dA 2#32 (dA 1#32 l.a)) := rfl

/-- A column as a function of the row. -/
def at' (X : FVec Ideal S256x256 .f32) (c : Fin 256) (n : ℕ) : EReal := X (ix2 ⟨n % 256, Nat.mod_lt _ (by decide)⟩ c)

theorem mask (d : Fin 8) (r : Fin 256) : IntOp.cmpi .sge (IntOp.andi (BitVec.ofNat 32 r.val) 7#32) (BitVec.ofNat 32 d.val)
    = if d.val ≤ r.val % 8 then 1#1 else 0#1 := by
  revert d r; decide +kernel

/-- The row a rotation reads. -/
theorem turned (d : Fin 8) (n : ℕ) (h : d.val ≤ n % 8) :
    (n % 256 + 256 - (BitVec.ofNat 32 d.val).toNat % 256) % 256 = (n - d.val) % 256 := by
  have hd := d.isLt
  rw [BitVec.toNat_ofNat, Nat.mod_eq_of_lt (show d.val < 2 ^ 32 by omega)]
  omega

theorem dU_apply (d : Fin 8) (A U : FVec Ideal S256x256 .f32) (c : Fin 256) :
    at' (dU (BitVec.ofNat 32 d.val) A U) c = dblU d.val (at' A c) (at' U c) := by
  funext n
  unfold at' dU dblU
  unfold_payloads
  pointwise
  have hm := mask d ⟨n % 256, Nat.mod_lt _ (by decide)⟩
  dsimp only at hm
  rw [hm]
  by_cases h : d.val ≤ n % 8
  · simp only [if_pos h, if_pos (show d.val ≤ n % 256 % 8 by omega), turned d n h]
    rfl
  · simp only [if_neg h, if_neg (show ¬d.val ≤ n % 256 % 8 by omega), mul_zero]
    rfl

theorem dA_apply (d : Fin 8) (A : FVec Ideal S256x256 .f32) (c : Fin 256) :
    at' (dA (BitVec.ofNat 32 d.val) A) c = dblA d.val (at' A c) := by
  funext n
  unfold at' dA dblA
  unfold_payloads
  pointwise
  have hm := mask d ⟨n % 256, Nat.mod_lt _ (by decide)⟩
  dsimp only at hm
  rw [hm]
  by_cases h : d.val ≤ n % 8
  · simp only [if_pos h, if_pos (show d.val ≤ n % 256 % 8 by omega), turned d n h]
    rfl
  · simp only [if_neg h, if_neg (show ¬d.val ≤ n % 256 % 8 by omega), mul_one]
    exact mul_one _

theorem gelu_apply (y : Vec Ideal S256x256 .f32) (r c : Fin 256) : geluV y (ix2 r c) = gelu (y (ix2 r c)) := by
  unfold geluV gelu
  pointwise

theorem hV_zero (U A : FVec Ideal S256x256 .f32) (car : Vec Ideal S1x256 .f32) (s : Fin 8) (c : Fin 256) :
    hV U A car 0 (ix2 s c) = at' U c s.val + at' A c s.val * car (ix2 0 c) := by
  unfold hV grp at'
  pointwise
  have hs := s.isLt
  simp only [Nat.mod_eq_of_lt (show s.val < 256 by omega)]

theorem hV_succ (U A : FVec Ideal S256x256 .f32) (car : Vec Ideal S1x256 .f32) (g : ℕ) (hg : g < 31) (s : Fin 8) (c : Fin 256) :
    hV U A car (g + 1) (ix2 s c)
      = at' U c (8 * (g + 1) + s.val) + at' A c (8 * (g + 1) + s.val) * hV U A car g (ix2 7 c) := by
  rw [hV]
  unfold grp at' last
  pointwise
  have hs := s.isLt
  simp only [Nat.mod_eq_of_lt (show g + 1 < 32 by omega), Nat.mod_eq_of_lt (show 8 * (g + 1) + s.val < 256 by omega)]

/-- The columns of the scan are the doublings of the columns. -/
theorem U_at (l : Loads) (c : Fin 256) : at' l.U c = grpU (at' l.a c) (at' l.u c) := by
  rw [U_eq, show (4#32 : BitVec 32) = BitVec.ofNat 32 (4 : Fin 8).val from rfl, dU_apply,
    show (2#32 : BitVec 32) = BitVec.ofNat 32 (2 : Fin 8).val from rfl, dU_apply, dA_apply,
    show (1#32 : BitVec 32) = BitVec.ofNat 32 (1 : Fin 8).val from rfl, dU_apply, dA_apply]
  rfl

theorem A_at (l : Loads) (c : Fin 256) : at' l.A c = grpA (at' l.a c) := by
  rw [A_eq, show (4#32 : BitVec 32) = BitVec.ofNat 32 (4 : Fin 8).val from rfl, dA_apply,
    show (2#32 : BitVec 32) = BitVec.ofNat 32 (2 : Fin 8).val from rfl, dA_apply,
    show (1#32 : BitVec 32) = BitVec.ofNat 32 (1 : Fin 8).val from rfl, dA_apply]
  rfl

/-- What a head's loads hold: the weights of head `h` and the rows of `X`. -/
structure Loads.Is (l : Loads) (P : Par) (X : ℕ → Fin 1024 → EReal) (h : Fin 4) : Prop where
  cb : ∀ c : Fin 256, l.cb (ix2 0 c) = P.b (col h c)
  w0 : ∀ c : Fin 256, l.w0 (ix2 0 c) = P.w 0 (col h c)
  w1 : ∀ c : Fin 256, l.w1 (ix2 0 c) = P.w 1 (col h c)
  w2 : ∀ c : Fin 256, l.w2 (ix2 0 c) = P.w 2 (col h c)
  w3 : ∀ c : Fin 256, l.w3 (ix2 0 c) = P.w 3 (col h c)
  X0 : ∀ r c : Fin 256, l.X0 (ix2 r c) = X r.val (col h c)
  X1 : ∀ r c : Fin 256, l.X1 (ix2 r c) = X (r.val + 1) (col h c)
  X2 : ∀ r c : Fin 256, l.X2 (ix2 r c) = X (r.val + 2) (col h c)
  X3 : ∀ r c : Fin 256, l.X3 (ix2 r c) = X (r.val + 3) (col h c)
  wa : ∀ k c : Fin 256, l.wa (ix3 0 k c) = P.wa h k c
  ba : ∀ c : Fin 256, l.ba (ix2 0 c) = P.ba (col h c)
  wi : ∀ k c : Fin 256, l.wi (ix3 0 k c) = P.wi h k c
  bi : ∀ c : Fin 256, l.bi (ix2 0 c) = P.bi (col h c)
  lam : ∀ c : Fin 256, l.lam (ix2 0 c) = P.lam (col h c)

section
variable {l : Loads} {P : Par} {X : ℕ → Fin 1024 → EReal} {h : Fin 4} (H : l.Is P X h)
include H

theorem xc_is (r c : Fin 256) : l.xc (ix2 r c) = conv P X r.val (col h c) := by
  rw [xc_apply, H.cb, H.w0, H.w1, H.w2, H.w3, H.X0, H.X1, H.X2, H.X3]
  rfl

theorem la_is (r c : Fin 256) : l.la (ix2 r c) = la P X r.val (col h c) := by
  rw [la_apply, H.ba, H.lam]
  simp only [xc_is H, H.wa]
  unfold la
  rw [hd_col, ln_col]

theorem gi_is (r c : Fin 256) : l.gi (ix2 r c) = gi P X r.val (col h c) := by
  rw [gi_apply, H.bi]
  simp only [xc_is H, H.wi]
  unfold gi
  rw [hd_col, ln_col]

theorem a_is (r c : Fin 256) : l.a (ix2 r c) = da P X r.val (col h c) := by
  rw [a_apply, la_is H]
  rfl

theorem u_is (r c : Fin 256) : l.u (ix2 r c) = du P X r.val (col h c) := by
  rw [u_apply, la_is H, gi_is H, a_is H, xc_is H]
  rfl

/-- A group's rows are the recurrence. -/
theorem hV_is (car : Vec Ideal S1x256 .f32) (g : ℕ) (hg : g < 32) (s : Fin 8) (c : Fin 256) :
    hV l.U l.A car g (ix2 s c) = lru P X (car (ix2 0 c)) (8 * g + s.val) (col h c) := by
  have hs := s.isLt
  have hu : Unit01 (at' l.a c) := fun r => by
    unfold at'
    rw [a_is H]
    exact da_unit P X _ _
  have key := chain hu (at' l.u c) (car (ix2 0 c)) (fun g s => hV l.U l.A car g (ix2 ⟨s % 8, Nat.mod_lt _ (by decide)⟩ c))
    (fun s hs => by
      rw [hV_zero, U_at, A_at]
      simp only [Nat.mod_eq_of_lt hs])
    (fun g s hg hs => by
      rw [hV_succ _ _ _ _ hg, U_at, A_at]
      simp only [Nat.mod_eq_of_lt hs]
      rfl) g s.val hg hs
  simp only [Nat.mod_eq_of_lt hs] at key
  refine key.trans ?_
  unfold lru
  refine scan_congr (fun r hr => ?_) (fun r hr => ?_)
  · unfold at'
    rw [a_is H]
    show da P X (r % 256) _ = _
    rw [Nat.mod_eq_of_lt (by omega)]
  · unfold at'
    rw [u_is H]
    show du P X (r % 256) _ = _
    rw [Nat.mod_eq_of_lt (by omega)]

/-- The rows of a head are the recurrence. -/
theorem allV_is (car : Vec Ideal S1x256 .f32) (r c : Fin 256) :
    allV l.U l.A car (ix2 r c) = lru P X (car (ix2 0 c)) r.val (col h c) := by
  have hr := r.isLt
  unfold allV
  refine (concatenate_ofFn_apply (t := S256x256) (s₁ := S8x256) (0 : Fin 2) (fun g : Fin 32 => hV l.U l.A car g.val) _ rfl 8 rfl
    (ix2 r c) ⟨r.val / 8, by omega⟩ rfl (ix2 (⟨r.val % 8, Nat.mod_lt _ (by decide)⟩ : Fin 8) c) rfl (fun b hb => by
      fin_cases b
      · exact absurd rfl hb
      · rfl)).trans ?_
  rw [hV_is H car _ (by dsimp only; omega)]
  dsimp only
  rw [Nat.div_add_mod]

/-- The stored rows of a head. -/
theorem outV_is (car : Vec Ideal S1x256 .f32) (y : Vec Ideal S256x256 .f32) (r c : Fin 256) :
    outV l.U l.A car y (ix2 r c) = lru P X (car (ix2 0 c)) r.val (col h c) * gelu (y (ix2 r c)) := by
  rw [← allV_is H, ← gelu_apply]
  rfl

/-- The stored carry of a head is the recurrence at the last row. -/
theorem carV_is (car : Vec Ideal S1x256 .f32) (c : Fin 256) :
    carV l.U l.A car (ix2 0 c) = lru P X (car (ix2 0 c)) 255 (col h c) := by
  have := hV_is H car 31 (by decide) 7 c
  rw [show (255 : ℕ) = 8 * 31 + ((7 : Fin 8) : ℕ) from rfl, ← this]
  unfold carV last
  pointwise

end

end Cert.LruHead
-- ==== Proof.LruLoads.lean ====
/- What one grid point of the recurrence call leaves: the convolution's rows with their halo, the carried row of the
   recurrence, and the stored rows, read at a row and a column. -/
module

public import proofs.«01_k».proof.Proof.Gen.Kernel6Ideal.Skeleton
public import Idealize.ShloMosaic.Lib.Pipeline.ValueKit
public import proofs.«01_k».proof.Proof.LruHead
public import Idealize.ShloMosaic.Lib.Pointwise

@[expose] public section

set_option maxRecDepth 16384

noncomputable section

namespace Cert.LruLoads

open Cert.LruMath Cert.LruHead Cert.Kernel6Ideal Cert.Kernel6Ideal.Gen Idealize.ShloMosaic Idealize.ShloMosaic.TcCoe

/-- The convolution's rows: eight of halo, then the point's block. -/
def xb (z : Vec Ideal S8x1024 .f32) (x : Vec Ideal S256x1024 .f32) (n : ℕ) (d : Fin 1024) : EReal :=
  if h : n < 8 then z (ix2 ⟨n, h⟩ d) else x (ix2 ⟨(n - 8) % 256, Nat.mod_lt _ (by decide)⟩ d)

/-- The two stores into the convolution's rows. -/
def bufL (z : Vec Ideal S8x1024 .f32) (x : Vec Ideal S256x1024 .f32) : List (View.Piece (Elt Ideal) S264x1024 .f32) :=
  [⟨Rect.unit ![8, 0] ![256, 1024] inb_S264x1024_S256x1024_8_0, k0_pay5 x⟩,
    ⟨Rect.unit ![0, 0] ![8, 1024] inb_S264x1024_S8x1024_0_0, z⟩]

theorem buf_apply (z : Vec Ideal S8x1024 .f32) (x : Vec Ideal S256x1024 .f32) (n : Fin 264) (d : Fin 1024) :
    View.canon (bufL z x) (ix2 n d) = xb z x n.val d := by
  have hn := n.isLt
  unfold bufL xb
  by_cases h : n.val < 8
  · rw [dif_pos h, View.canon_cons_of_not_mem _ _ (fun hm => by
      have h8 : 8 ≤ n.val := (Rect.mem_set_unit (s := S264x1024) (inb := inb_S264x1024_S256x1024_8_0).1 hm 0).1
      omega)]
    have e : (ix2 n d : S264x1024.Idx) = (Rect.unit ![0, 0] ![8, 1024] inb_S264x1024_S8x1024_0_0).emb (ix2 (⟨n.val, h⟩ : Fin 8) d) := by
      funext a
      fin_cases a <;> exact Fin.ext (by simp)
    rw [e, View.canon_cons_emb]
  · rw [dif_neg h]
    have e : (ix2 n d : S264x1024.Idx) = (Rect.unit ![8, 0] ![256, 1024] inb_S264x1024_S256x1024_8_0).emb
        (ix2 (⟨(n.val - 8) % 256, Nat.mod_lt _ (by decide)⟩ : Fin 256) d) := by
      funext a
      fin_cases a <;> exact Fin.ext (by simp; try omega)
    rw [e, View.canon_cons_emb]
    unfold_payloads
    pointwise

theorem inb2 {m : ℕ} (j : ℕ) (hj : j + 1 ≤ m) (h : Fin 4) : ∀ a, (![j, 256 * h.val] : Fin 2 → ℕ) a + (![1, 256] : Fin 2 → ℕ) a ≤ (![m, 1024] : Fin 2 → ℕ) a := by
  have := h.isLt
  intro a
  fin_cases a <;> simp <;> omega

theorem inbX (j : ℕ) (hj : j ≤ 8) (h : Fin 4) : ∀ a : Fin S264x1024.rank, (![j, 256 * h.val] : Fin 2 → ℕ) a + (![256, 256] : Fin 2 → ℕ) a ≤ S264x1024.size a := by
  have := h.isLt
  intro a
  fin_cases a <;> simp <;> omega

theorem inb3 (h : Fin 4) : ∀ a, (![h.val, 0, 0] : Fin 3 → ℕ) a + (![1, 256, 256] : Fin 3 → ℕ) a ≤ (![4, 256, 256] : Fin 3 → ℕ) a := by
  have := h.isLt
  intro a
  fin_cases a <;> simp <;> omega

/-- The loads of head `h`. -/
def lds (v : View sig .tc .vmem S264x1024 .f32) (z : Vec Ideal S8x1024 .f32) (x0 : Vec Ideal S256x1024 .f32)
    (x2 : Vec Ideal S4x1024 .f32) (x3 : Vec Ideal S1x1024 .f32) (x4 : Vec Ideal S4x256x256 .bf16) (x5 : Vec Ideal S1x1024 .f32)
    (x6 : Vec Ideal S4x256x256 .bf16) (x7 x8 : Vec Ideal S1x1024 .f32) (h : Fin 4) : Loads where
  cb := View.ld x3 (Rect.unit ![0, 256 * h.val] ![1, 256] (inb2 0 (by decide) h))
  w0 := View.ld x2 (Rect.unit ![0, 256 * h.val] ![1, 256] (inb2 0 (by decide) h))
  X0 := v.readCov (bufL z x0) (Rect.unit (s := S264x1024) ![5, 256 * h.val] ![256, 256] (inbX 5 (by decide) h)).toLoadRect
  w1 := View.ld x2 (Rect.unit ![1, 256 * h.val] ![1, 256] (inb2 1 (by decide) h))
  X1 := v.readCov (bufL z x0) (Rect.unit (s := S264x1024) ![6, 256 * h.val] ![256, 256] (inbX 6 (by decide) h)).toLoadRect
  w2 := View.ld x2 (Rect.unit ![2, 256 * h.val] ![1, 256] (inb2 2 (by decide) h))
  X2 := v.readCov (bufL z x0) (Rect.unit (s := S264x1024) ![7, 256 * h.val] ![256, 256] (inbX 7 (by decide) h)).toLoadRect
  w3 := View.ld x2 (Rect.unit ![3, 256 * h.val] ![1, 256] (inb2 3 (by decide) h))
  X3 := v.readCov (bufL z x0) (Rect.unit (s := S264x1024) ![8, 256 * h.val] ![256, 256] (inbX 8 (by decide) h)).toLoadRect
  wa := View.ld x4 (Rect.unit ![h.val, 0, 0] ![1, 256, 256] (inb3 h))
  ba := View.ld x5 (Rect.unit ![0, 256 * h.val] ![1, 256] (inb2 0 (by decide) h))
  wi := View.ld x6 (Rect.unit ![h.val, 0, 0] ![1, 256, 256] (inb3 h))
  bi := View.ld x7 (Rect.unit ![0, 256 * h.val] ![1, 256] (inb2 0 (by decide) h))
  lam := View.ld x8 (Rect.unit ![0, 256 * h.val] ![1, 256] (inb2 0 (by decide) h))

/-- A point's weights. -/
def par (x2 : Vec Ideal S4x1024 .f32) (x3 : Vec Ideal S1x1024 .f32) (x4 : Vec Ideal S4x256x256 .bf16) (x5 : Vec Ideal S1x1024 .f32)
    (x6 : Vec Ideal S4x256x256 .bf16) (x7 x8 : Vec Ideal S1x1024 .f32) : Par where
  w := fun j d => x2 (ix2 j d)
  b := fun d => x3 (ix2 0 d)
  wa := fun h k c => x4 (ix3 h k c)
  ba := fun d => x5 (ix2 0 d)
  wi := fun h k c => x6 (ix3 h k c)
  bi := fun d => x7 (ix2 0 d)
  lam := fun d => x8 (ix2 0 d)

theorem ld_row {m : ℕ} (x : Vec Ideal ⟨2, ![m, 1024]⟩ .f32) (j : ℕ) (hj : j + 1 ≤ m) (h : Fin 4) (c : Fin 256) :
    View.ld x (Rect.unit ![j, 256 * h.val] ![1, 256] (inb2 j hj h)) (ix2 (0 : Fin 1) c) = x (ix2 ⟨j, hj⟩ (col h c)) := by
  refine congrArg x (funext fun a => ?_)
  fin_cases a <;> exact Fin.ext (by simp [col])

theorem ld_w (x : Vec Ideal S4x256x256 .bf16) (h : Fin 4) (k c : Fin 256) :
    View.ld x (Rect.unit ![h.val, 0, 0] ![1, 256, 256] (inb3 h)) (ix3 (0 : Fin 1) k c) = x (ix3 h k c) := by
  refine congrArg x (funext fun a => ?_)
  fin_cases a <;> exact Fin.ext (by simp)

theorem ld_x (v : View sig .tc .vmem S264x1024 .f32) (z : Vec Ideal S8x1024 .f32) (x0 : Vec Ideal S256x1024 .f32) (j : ℕ) (hj : j ≤ 8)
    (h : Fin 4) (r c : Fin 256) :
    v.readCov (bufL z x0) (Rect.unit (s := S264x1024) ![j, 256 * h.val] ![256, 256] (inbX j hj h)).toLoadRect (ix2 r c) = xb z x0 (r.val + j) (col h c) := by
  have hr := r.isLt
  rw [View.readCov_eq_canon', show r.val + j = (⟨r.val + j, by omega⟩ : Fin 264).val from rfl, ← buf_apply]
  refine congrArg (View.canon (bufL z x0)) (funext fun a => ?_)
  fin_cases a
  · exact Fin.ext (by simp [Nat.add_comm])
  · exact Fin.ext (by simp [col])

theorem lds_is (v : View sig .tc .vmem S264x1024 .f32) (z : Vec Ideal S8x1024 .f32) (x0 : Vec Ideal S256x1024 .f32)
    (x2 : Vec Ideal S4x1024 .f32) (x3 : Vec Ideal S1x1024 .f32) (x4 : Vec Ideal S4x256x256 .bf16) (x5 : Vec Ideal S1x1024 .f32)
    (x6 : Vec Ideal S4x256x256 .bf16) (x7 x8 : Vec Ideal S1x1024 .f32) (h : Fin 4) :
    (lds v z x0 x2 x3 x4 x5 x6 x7 x8 h).Is (par x2 x3 x4 x5 x6 x7 x8) (fun n => xb z x0 (n + 5)) h where
  cb := ld_row x3 0 (by decide) h
  w0 := ld_row x2 0 (by decide) h
  w1 := ld_row x2 1 (by decide) h
  w2 := ld_row x2 2 (by decide) h
  w3 := ld_row x2 3 (by decide) h
  X0 := ld_x v z x0 5 (by decide) h
  X1 := ld_x v z x0 6 (by decide) h
  X2 := ld_x v z x0 7 (by decide) h
  X3 := ld_x v z x0 8 (by decide) h
  wa := ld_w x4 h
  ba := ld_row x5 0 (by decide) h
  wi := ld_w x6 h
  bi := ld_row x7 0 (by decide) h
  lam := ld_row x8 0 (by decide) h

end Cert.LruLoads
-- ==== Proof.LruCases.lean ====
/- What one grid point of the recurrence call leaves: the convolution's rows with their halo, the carried row of the
   recurrence, and the stored rows, read at a row and a column. -/
module

public import proofs.«01_k».proof.Proof.Gen.Kernel6Ideal.Frame
public import Idealize.ShloMosaic.Lib.Pipeline.ValueKit
public import proofs.«01_k».proof.Proof.LruLoads
public import Idealize.ShloMosaic.Lib.Pointwise

@[expose] public section

set_option maxRecDepth 16384

noncomputable section

namespace Cert.LruCases

open Cert.LruMath Cert.LruHead Cert.LruLoads Cert.Kernel6Ideal Cert.Kernel6Ideal.Gen Idealize.ShloMosaic Idealize.ShloMosaic.TcCoe

/-- A stored carry, at an index of its head. -/
theorem car_close {l : Loads} {P : Par} {X : ℕ → Fin 1024 → EReal} {h : Fin 4} (H : l.Is P X h) (car : Vec Ideal S1x256 .f32)
    (y : S1x256.Idx) (d : Fin 1024) (h1 : d.val = 256 * h.val + (y 1).val) (v : EReal) (hv : car (ix2 0 (y 1)) = v) :
    carV l.U l.A car y = lru P X v 255 d := by
  have e : y = ix2 0 (y 1) := by
    funext a
    fin_cases a
    · exact Subsingleton.elim (α := Fin 1) _ _
    · rfl
  have ed : col h (y 1) = d := Fin.ext h1.symm
  conv_lhs => rw [e]
  rw [← hv, ← ed]
  exact carV_is H car (y 1)

/-- A stored row, at an index of its head. -/
theorem out_close {l : Loads} {P : Par} {X : ℕ → Fin 1024 → EReal} {h : Fin 4} (H : l.Is P X h) (car : Vec Ideal S1x256 .f32)
    (x : Vec Ideal S256x256 .f32) (y : S256x256.Idx) (r : Fin 256) (d : Fin 1024) (h0 : r.val = (y 0).val) (h1 : d.val = 256 * h.val + (y 1).val)
    (v w : EReal) (hv : car (ix2 0 (y 1)) = v) (hw : x (ix2 r (y 1)) = w) :
    outV l.U l.A car x y = lru P X v r.val d * gelu w := by
  have e : y = ix2 r (y 1) := by
    funext a
    fin_cases a
    · exact Fin.ext h0.symm
    · rfl
  have ed : col h (y 1) = d := Fin.ext h1.symm
  conv_lhs => rw [e]
  rw [← hv, ← ed, ← hw]
  exact outV_is H car x r (y 1)

/-- A load of a head's columns of a row. -/
theorem ld_col (x : Vec Ideal S1x1024 .f32) (h : Fin 4) (c : Fin 256) (d : Fin 1024) (h1 : d.val = 256 * h.val + c.val) :
    View.ld x (Rect.unit ![0, 256 * h.val] ![1, 256] (inb2 0 (by decide) h)) (ix2 (0 : Fin 1) c) = x (ix2 0 d) := by
  rw [show d = col h c from Fin.ext h1]
  exact ld_row x 0 (by decide) h c

theorem inbY (h : Fin 4) : ∀ a : Fin S256x1024.rank, (![0, 256 * h.val] : Fin 2 → ℕ) a + (![256, 256] : Fin 2 → ℕ) a ≤ S256x1024.size a := by
  have := h.isLt
  intro a
  fin_cases a <;> simp <;> omega

/-- A load of a head's columns of a block. -/
theorem ld_blk (x : Vec Ideal S256x1024 .f32) (h : Fin 4) (r c : Fin 256) (d : Fin 1024) (h1 : d.val = 256 * h.val + c.val) :
    View.ld x (Rect.unit (s := S256x1024) ![0, 256 * h.val] ![256, 256] (inbY h)) (ix2 r c) = x (ix2 r d) := by
  refine congrArg x (funext fun a => ?_)
  fin_cases a
  · exact Fin.ext (by simp)
  · exact Fin.ext (by simp [h1])

theorem notin (o : ℕ) (inb) (d : Fin 1024) (hd : d.val < o ∨ o + 256 ≤ d.val) :
    (ix2 0 d : S1x1024.Idx) ∉ (Rect.unit (s := S1x1024) ![0, o] ![1, 256] inb).set := fun hm => by
  have h := (Rect.mem_set_unit (s := S1x1024) (inb := inb)).1 hm 1
  have ha : o ≤ d.val := h.1
  have hb : d.val < o + 256 := h.2
  omega

theorem embc (o : ℕ) (inb) (d : Fin 1024) (ha : o ≤ d.val) (hb : d.val < o + 256) :
    (ix2 0 d : S1x1024.Idx) = (Rect.unit (s := S1x1024) ![0, o] ![1, 256] inb).emb (ix2 (0 : Fin 1) (⟨d.val - o, by omega⟩ : Fin 256)) := by
  funext a
  fin_cases a <;> exact Fin.ext (by simp; try omega)

theorem canon_at (o : ℕ) (inb) (f : Vec Ideal S1x256 .f32) (L : List (View.Piece (Elt Ideal) S1x1024 .f32)) (d : Fin 1024) (ha : o ≤ d.val) (hb : d.val < o + 256) :
    View.canon (⟨Rect.unit (s := S1x1024) ![0, o] ![1, 256] inb, f⟩ :: L) (ix2 0 d) = f (ix2 (0 : Fin 1) (⟨d.val - o, by omega⟩ : Fin 256)) := by
  rw [embc o inb d ha hb]
  exact View.canon_cons_emb ..

theorem canon_skip (o : ℕ) (inb) (f : Vec Ideal S1x256 .f32) (L : List (View.Piece (Elt Ideal) S1x1024 .f32)) (d : Fin 1024) (hd : d.val < o ∨ o + 256 ≤ d.val) :
    View.canon (⟨Rect.unit (s := S1x1024) ![0, o] ![1, 256] inb, f⟩ :: L) (ix2 0 d) = View.canon L (ix2 0 d) :=
  View.canon_cons_of_not_mem _ _ (notin o inb d hd)

/-- The four heads' stores cover the carried row: what was stored before them is not seen. -/
theorem canon_drop (f3 f2 f1 f0 : Vec Ideal S1x256 .f32) (b : List (View.Piece (Elt Ideal) S1x1024 .f32)) (d : Fin 1024) :
    View.canon (⟨Rect.unit ![0, 768] ![1, 256] inb_S1x1024_S1x256_0_768, f3⟩ :: ⟨Rect.unit ![0, 512] ![1, 256] inb_S1x1024_S1x256_0_512, f2⟩ ::
      ⟨Rect.unit ![0, 256] ![1, 256] inb_S1x1024_S1x256_0_256, f1⟩ :: ⟨Rect.unit ![0, 0] ![1, 256] inb_S1x1024_S1x256_0_0, f0⟩ :: b) (ix2 0 d)
      = View.canon (⟨Rect.unit ![0, 768] ![1, 256] inb_S1x1024_S1x256_0_768, f3⟩ :: ⟨Rect.unit ![0, 512] ![1, 256] inb_S1x1024_S1x256_0_512, f2⟩ ::
      ⟨Rect.unit ![0, 256] ![1, 256] inb_S1x1024_S1x256_0_256, f1⟩ :: ⟨Rect.unit ![0, 0] ![1, 256] inb_S1x1024_S1x256_0_0, f0⟩ :: []) (ix2 0 d) := by
  have hd := d.isLt
  by_cases h3 : 768 ≤ d.val
  · exact (canon_at 768 _ _ _ d h3 (by omega)).trans (canon_at 768 _ _ _ d h3 (by omega)).symm
  refine (canon_skip 768 _ _ _ d (by omega)).trans (Eq.trans ?_ (canon_skip 768 _ _ _ d (by omega)).symm)
  by_cases h2 : 512 ≤ d.val
  · exact (canon_at 512 _ _ _ d h2 (by omega)).trans (canon_at 512 _ _ _ d h2 (by omega)).symm
  refine (canon_skip 512 _ _ _ d (by omega)).trans (Eq.trans ?_ (canon_skip 512 _ _ _ d (by omega)).symm)
  by_cases h1 : 256 ≤ d.val
  · exact (canon_at 256 _ _ _ d h1 (by omega)).trans (canon_at 256 _ _ _ d h1 (by omega)).symm
  refine (canon_skip 256 _ _ _ d (by omega)).trans (Eq.trans ?_ (canon_skip 256 _ _ _ d (by omega)).symm)
  exact (canon_at 0 _ _ _ d (by omega) (by omega)).trans (canon_at 0 _ _ _ d (by omega) (by omega)).symm

theorem base_zero (d : Fin 1024) :
    View.canon [(⟨Rect.unit (s := S1x1024) ![0, 0] S1x1024.size inb_S1x1024_S1x1024_0_0, k0_pay3 (F := Ideal)⟩ : View.Piece (Elt Ideal) S1x1024 .f32)] (ix2 0 d) = (0 : EReal) := by
  have e : (ix2 0 d : S1x1024.Idx) = (Rect.unit (s := S1x1024) ![0, 0] S1x1024.size inb_S1x1024_S1x1024_0_0).emb (ix2 0 d) := by
    funext a
    fin_cases a <;> exact Fin.ext (by simp)
  rw [e, View.canon_cons_emb]
  unfold_payloads
  pointwise

/-- A load of the carried row at the first point of a sequence. -/
theorem car_zero (v : View sig .tc .vmem S1x1024 .f32) (L : List (View.Piece (Elt Ideal) S1x1024 .f32)) (o : ℕ) (inb) (ho : o + 256 ≤ 1024) (c : Fin 256)
    (hL : ∀ d : Fin 1024, o ≤ d.val → View.canon L (ix2 0 d) = (0 : EReal)) :
    v.readCov L (Rect.unit (s := S1x1024) ![0, o] ![1, 256] inb).toLoadRect (ix2 (0 : Fin 1) c) = (0 : EReal) := by
  have hc := c.isLt
  rw [View.readCov_eq_canon', ← hL ⟨o + c.val, by omega⟩ (by simp)]
  refine congrArg (View.canon L) (funext fun a => ?_)
  fin_cases a <;> exact Fin.ext (by simp)

theorem skip (p o : ℕ) (inb) (f : Vec Ideal S1x256 .f32) (L : List (View.Piece (Elt Ideal) S1x1024 .f32)) (hpo : p + 256 ≤ o)
    (hL : ∀ d : Fin 1024, o ≤ d.val → View.canon L (ix2 0 d) = (0 : EReal)) :
    ∀ d : Fin 1024, o ≤ d.val → View.canon (⟨Rect.unit (s := S1x1024) ![0, p] ![1, 256] inb, f⟩ :: L) (ix2 0 d) = (0 : EReal) := fun d hd =>
  (canon_skip p inb f L d (.inr (by omega))).trans (hL d hd)

/-- The convolution's rows after the point. -/
theorem sout_B_0 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S264x1024 .f32) (harg12 : arg12.IsWhole) (arg13 : Memref sig .tc .vmem S1x1024 .f32) (harg13 : arg13.IsWhole) (hc0 : ¬cond0_0 i) (hc1 : cond0_1 i)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (xs0 : Vec Ideal S264x1024 .f32) (xs1 : Vec Ideal S1x1024 .f32) (n : Fin 264) (d : Fin 1024) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 (ix2 n d) = xb (k0_pay4 (View.ld xs0 (Rect.unit ![256, 0] ![8, 1024] inb_S264x1024_S8x1024_256_0))) x0 n.val d := by
  frame_out
  exact buf_apply _ _ n d

set_option maxHeartbeats 4000000 in
/-- The carried row after the point: the recurrence at the point's last row. -/
theorem sout_B_1 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S264x1024 .f32) (harg12 : arg12.IsWhole) (arg13 : Memref sig .tc .vmem S1x1024 .f32) (harg13 : arg13.IsWhole) (hc0 : ¬cond0_0 i) (hc1 : cond0_1 i)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (xs0 : Vec Ideal S264x1024 .f32) (xs1 : Vec Ideal S1x1024 .f32) (d : Fin 1024) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 (ix2 0 d) = lru (par x2 x3 x4 x5 x6 x7 x8) (fun n => xb (k0_pay4 (View.ld xs0 (Rect.unit ![256, 0] ![8, 1024] inb_S264x1024_S8x1024_256_0))) x0 (n + 5)) (xs1 (ix2 0 d)) 255 d := by
  frame_out
  canon_tiles y h
  · replace h1 : d.val = 256 * ((3 : Fin 4) : ℕ) + (y 1).val := by
      have := h1
      first | exact h1 | (simpa using h1)
    refine (congrFun (show _ = carV (lds arg12.view (k0_pay4 (View.ld xs0 (Rect.unit ![256, 0] ![8, 1024] inb_S264x1024_S8x1024_256_0))) x0 x2 x3 x4 x5 x6 x7 x8 3).U (lds arg12.view (k0_pay4 (View.ld xs0 (Rect.unit ![256, 0] ![8, 1024] inb_S264x1024_S8x1024_256_0))) x0 x2 x3 x4 x5 x6 x7 x8 3).A _ from rfl) _).trans ?_
    exact car_close (lds_is arg12.view (k0_pay4 (View.ld xs0 (Rect.unit ![256, 0] ![8, 1024] inb_S264x1024_S8x1024_256_0))) x0 x2 x3 x4 x5 x6 x7 x8 3) _ y d h1 _ (ld_col xs1 3 _ d h1)
  · replace h1 : d.val = 256 * ((2 : Fin 4) : ℕ) + (y 1).val := by
      have := h1
      first | exact h1 | (simpa using h1)
    refine (congrFun (show _ = carV (lds arg12.view (k0_pay4 (View.ld xs0 (Rect.unit ![256, 0] ![8, 1024] inb_S264x1024_S8x1024_256_0))) x0 x2 x3 x4 x5 x6 x7 x8 2).U (lds arg12.view (k0_pay4 (View.ld xs0 (Rect.unit ![256, 0] ![8, 1024] inb_S264x1024_S8x1024_256_0))) x0 x2 x3 x4 x5 x6 x7 x8 2).A _ from rfl) _).trans ?_
    exact car_close (lds_is arg12.view (k0_pay4 (View.ld xs0 (Rect.unit ![256, 0] ![8, 1024] inb_S264x1024_S8x1024_256_0))) x0 x2 x3 x4 x5 x6 x7 x8 2) _ y d h1 _ (ld_col xs1 2 _ d h1)
  · replace h1 : d.val = 256 * ((1 : Fin 4) : ℕ) + (y 1).val := by
      have := h1
      first | exact h1 | (simpa using h1)
    refine (congrFun (show _ = carV (lds arg12.view (k0_pay4 (View.ld xs0 (Rect.unit ![256, 0] ![8, 1024] inb_S264x1024_S8x1024_256_0))) x0 x2 x3 x4 x5 x6 x7 x8 1).U (lds arg12.view (k0_pay4 (View.ld xs0 (Rect.unit ![256, 0] ![8, 1024] inb_S264x1024_S8x1024_256_0))) x0 x2 x3 x4 x5 x6 x7 x8 1).A _ from rfl) _).trans ?_
    exact car_close (lds_is arg12.view (k0_pay4 (View.ld xs0 (Rect.unit ![256, 0] ![8, 1024] inb_S264x1024_S8x1024_256_0))) x0 x2 x3 x4 x5 x6 x7 x8 1) _ y d h1 _ (ld_col xs1 1 _ d h1)
  · replace h1 : d.val = 256 * ((0 : Fin 4) : ℕ) + (y 1).val := by
      have := h1
      first | exact h1 | (simpa using h1)
    refine (congrFun (show _ = carV (lds arg12.view (k0_pay4 (View.ld xs0 (Rect.unit ![256, 0] ![8, 1024] inb_S264x1024_S8x1024_256_0))) x0 x2 x3 x4 x5 x6 x7 x8 0).U (lds arg12.view (k0_pay4 (View.ld xs0 (Rect.unit ![256, 0] ![8, 1024] inb_S264x1024_S8x1024_256_0))) x0 x2 x3 x4 x5 x6 x7 x8 0).A _ from rfl) _).trans ?_
    exact car_close (lds_is arg12.view (k0_pay4 (View.ld xs0 (Rect.unit ![256, 0] ![8, 1024] inb_S264x1024_S8x1024_256_0))) x0 x2 x3 x4 x5 x6 x7 x8 0) _ y d h1 _ (ld_col xs1 0 _ d h1)

set_option maxHeartbeats 4000000 in
/-- The stored rows: the recurrence times the activation. -/
theorem out_B (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S264x1024 .f32) (harg12 : arg12.IsWhole) (arg13 : Memref sig .tc .vmem S1x1024 .f32) (harg13 : arg13.IsWhole) (hc0 : ¬cond0_0 i) (hc1 : cond0_1 i)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (xs0 : Vec Ideal S264x1024 .f32) (xs1 : Vec Ideal S1x1024 .f32) (r : Fin 256) (d : Fin 1024) :
    out0_B_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 xs0 xs1 (ix2 r d) = lru (par x2 x3 x4 x5 x6 x7 x8) (fun n => xb (k0_pay4 (View.ld xs0 (Rect.unit ![256, 0] ![8, 1024] inb_S264x1024_S8x1024_256_0))) x0 (n + 5)) (xs1 (ix2 0 d)) r.val d * gelu (x1 (ix2 r d)) := by
  frame_out
  canon_tiles y h
  · replace h0 : r.val = (y 0).val := by
      first | exact h0 | (simpa using h0)
    replace h1 : d.val = 256 * ((3 : Fin 4) : ℕ) + (y 1).val := by
      first | exact h1 | (simpa using h1)
    refine (congrFun (show _ = outV (lds arg12.view (k0_pay4 (View.ld xs0 (Rect.unit ![256, 0] ![8, 1024] inb_S264x1024_S8x1024_256_0))) x0 x2 x3 x4 x5 x6 x7 x8 3).U (lds arg12.view (k0_pay4 (View.ld xs0 (Rect.unit ![256, 0] ![8, 1024] inb_S264x1024_S8x1024_256_0))) x0 x2 x3 x4 x5 x6 x7 x8 3).A _ _ from rfl) _).trans ?_
    exact out_close (lds_is arg12.view (k0_pay4 (View.ld xs0 (Rect.unit ![256, 0] ![8, 1024] inb_S264x1024_S8x1024_256_0))) x0 x2 x3 x4 x5 x6 x7 x8 3) _ _ y r d h0 h1 _ _ (ld_col xs1 3 _ d h1) (ld_blk x1 3 r _ d h1)
  · replace h0 : r.val = (y 0).val := by
      first | exact h0 | (simpa using h0)
    replace h1 : d.val = 256 * ((2 : Fin 4) : ℕ) + (y 1).val := by
      first | exact h1 | (simpa using h1)
    refine (congrFun (show _ = outV (lds arg12.view (k0_pay4 (View.ld xs0 (Rect.unit ![256, 0] ![8, 1024] inb_S264x1024_S8x1024_256_0))) x0 x2 x3 x4 x5 x6 x7 x8 2).U (lds arg12.view (k0_pay4 (View.ld xs0 (Rect.unit ![256, 0] ![8, 1024] inb_S264x1024_S8x1024_256_0))) x0 x2 x3 x4 x5 x6 x7 x8 2).A _ _ from rfl) _).trans ?_
    exact out_close (lds_is arg12.view (k0_pay4 (View.ld xs0 (Rect.unit ![256, 0] ![8, 1024] inb_S264x1024_S8x1024_256_0))) x0 x2 x3 x4 x5 x6 x7 x8 2) _ _ y r d h0 h1 _ _ (ld_col xs1 2 _ d h1) (ld_blk x1 2 r _ d h1)
  · replace h0 : r.val = (y 0).val := by
      first | exact h0 | (simpa using h0)
    replace h1 : d.val = 256 * ((1 : Fin 4) : ℕ) + (y 1).val := by
      first | exact h1 | (simpa using h1)
    refine (congrFun (show _ = outV (lds arg12.view (k0_pay4 (View.ld xs0 (Rect.unit ![256, 0] ![8, 1024] inb_S264x1024_S8x1024_256_0))) x0 x2 x3 x4 x5 x6 x7 x8 1).U (lds arg12.view (k0_pay4 (View.ld xs0 (Rect.unit ![256, 0] ![8, 1024] inb_S264x1024_S8x1024_256_0))) x0 x2 x3 x4 x5 x6 x7 x8 1).A _ _ from rfl) _).trans ?_
    exact out_close (lds_is arg12.view (k0_pay4 (View.ld xs0 (Rect.unit ![256, 0] ![8, 1024] inb_S264x1024_S8x1024_256_0))) x0 x2 x3 x4 x5 x6 x7 x8 1) _ _ y r d h0 h1 _ _ (ld_col xs1 1 _ d h1) (ld_blk x1 1 r _ d h1)
  · replace h0 : r.val = (y 0).val := by
      first | exact h0 | (simpa using h0)
    replace h1 : d.val = 256 * ((0 : Fin 4) : ℕ) + (y 1).val := by
      first | exact h1 | (simpa using h1)
    refine (congrFun (show _ = outV (lds arg12.view (k0_pay4 (View.ld xs0 (Rect.unit ![256, 0] ![8, 1024] inb_S264x1024_S8x1024_256_0))) x0 x2 x3 x4 x5 x6 x7 x8 0).U (lds arg12.view (k0_pay4 (View.ld xs0 (Rect.unit ![256, 0] ![8, 1024] inb_S264x1024_S8x1024_256_0))) x0 x2 x3 x4 x5 x6 x7 x8 0).A _ _ from rfl) _).trans ?_
    exact out_close (lds_is arg12.view (k0_pay4 (View.ld xs0 (Rect.unit ![256, 0] ![8, 1024] inb_S264x1024_S8x1024_256_0))) x0 x2 x3 x4 x5 x6 x7 x8 0) _ _ y r d h0 h1 _ _ (ld_col xs1 0 _ d h1) (ld_blk x1 0 r _ d h1)

/-- The convolution's rows after the point. -/
theorem sout_A_0 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S264x1024 .f32) (harg12 : arg12.IsWhole) (arg13 : Memref sig .tc .vmem S1x1024 .f32) (harg13 : arg13.IsWhole) (hc0 : cond0_0 i) (hc1 : ¬cond0_1 i)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (n : Fin 264) (d : Fin 1024) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 n d) = xb (k0_pay2 (F := Ideal)) x0 n.val d := by
  frame_out
  exact buf_apply _ _ n d

set_option maxHeartbeats 4000000 in
/-- The carried row after the point: the recurrence at the point's last row. -/
theorem sout_A_1 (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S264x1024 .f32) (harg12 : arg12.IsWhole) (arg13 : Memref sig .tc .vmem S1x1024 .f32) (harg13 : arg13.IsWhole) (hc0 : cond0_0 i) (hc1 : ¬cond0_1 i)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (d : Fin 1024) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 0 d) = lru (par x2 x3 x4 x5 x6 x7 x8) (fun n => xb (k0_pay2 (F := Ideal)) x0 (n + 5)) 0 255 d := by
  frame_out
  refine (canon_drop _ _ _ _ _ d).trans ?_
  canon_tiles y h
  · replace h1 : d.val = 256 * ((3 : Fin 4) : ℕ) + (y 1).val := by
      have := h1
      first | exact h1 | (simpa using h1)
    refine (congrFun (show _ = carV (lds arg12.view (k0_pay2 (F := Ideal)) x0 x2 x3 x4 x5 x6 x7 x8 3).U (lds arg12.view (k0_pay2 (F := Ideal)) x0 x2 x3 x4 x5 x6 x7 x8 3).A _ from rfl) _).trans ?_
    exact car_close (lds_is arg12.view (k0_pay2 (F := Ideal)) x0 x2 x3 x4 x5 x6 x7 x8 3) _ y d h1 _ (car_zero _ _ 768 _ (by decide) _ (skip 512 _ _ _ _ (by decide) (skip 256 _ _ _ _ (by decide) (skip 0 _ _ _ _ (by decide) (fun d _ => base_zero d)))))
  · replace h1 : d.val = 256 * ((2 : Fin 4) : ℕ) + (y 1).val := by
      have := h1
      first | exact h1 | (simpa using h1)
    refine (congrFun (show _ = carV (lds arg12.view (k0_pay2 (F := Ideal)) x0 x2 x3 x4 x5 x6 x7 x8 2).U (lds arg12.view (k0_pay2 (F := Ideal)) x0 x2 x3 x4 x5 x6 x7 x8 2).A _ from rfl) _).trans ?_
    exact car_close (lds_is arg12.view (k0_pay2 (F := Ideal)) x0 x2 x3 x4 x5 x6 x7 x8 2) _ y d h1 _ (car_zero _ _ 512 _ (by decide) _ (skip 256 _ _ _ _ (by decide) (skip 0 _ _ _ _ (by decide) (fun d _ => base_zero d))))
  · replace h1 : d.val = 256 * ((1 : Fin 4) : ℕ) + (y 1).val := by
      have := h1
      first | exact h1 | (simpa using h1)
    refine (congrFun (show _ = carV (lds arg12.view (k0_pay2 (F := Ideal)) x0 x2 x3 x4 x5 x6 x7 x8 1).U (lds arg12.view (k0_pay2 (F := Ideal)) x0 x2 x3 x4 x5 x6 x7 x8 1).A _ from rfl) _).trans ?_
    exact car_close (lds_is arg12.view (k0_pay2 (F := Ideal)) x0 x2 x3 x4 x5 x6 x7 x8 1) _ y d h1 _ (car_zero _ _ 256 _ (by decide) _ (skip 0 _ _ _ _ (by decide) (fun d _ => base_zero d)))
  · replace h1 : d.val = 256 * ((0 : Fin 4) : ℕ) + (y 1).val := by
      have := h1
      first | exact h1 | (simpa using h1)
    refine (congrFun (show _ = carV (lds arg12.view (k0_pay2 (F := Ideal)) x0 x2 x3 x4 x5 x6 x7 x8 0).U (lds arg12.view (k0_pay2 (F := Ideal)) x0 x2 x3 x4 x5 x6 x7 x8 0).A _ from rfl) _).trans ?_
    exact car_close (lds_is arg12.view (k0_pay2 (F := Ideal)) x0 x2 x3 x4 x5 x6 x7 x8 0) _ y d h1 _ (car_zero _ _ 0 _ (by decide) _ (fun d _ => base_zero d))

set_option maxHeartbeats 4000000 in
/-- The stored rows: the recurrence times the activation. -/
theorem out_A (c : Dev nD) (i : grid0.Coords) (arg2 : Memref sig .tc .vmem S256x1024 .f32) (harg2 : arg2.IsWhole) (arg3 : Memref sig .tc .vmem S256x1024 .f32) (harg3 : arg3.IsWhole) (arg4 : Memref sig .tc .vmem S4x1024 .f32) (harg4 : arg4.IsWhole) (arg5 : Memref sig .tc .vmem S1x1024 .f32) (harg5 : arg5.IsWhole) (arg6 : Memref sig .tc .vmem S4x256x256 .bf16) (harg6 : arg6.IsWhole) (arg7 : Memref sig .tc .vmem S1x1024 .f32) (harg7 : arg7.IsWhole) (arg8 : Memref sig .tc .vmem S4x256x256 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S256x1024 .bf16) (harg11 : arg11.IsWhole) (arg12 : Memref sig .tc .vmem S264x1024 .f32) (harg12 : arg12.IsWhole) (arg13 : Memref sig .tc .vmem S1x1024 .f32) (harg13 : arg13.IsWhole) (hc0 : cond0_0 i) (hc1 : ¬cond0_1 i)
    (x0 : Vec Ideal S256x1024 .f32) (x1 : Vec Ideal S256x1024 .f32) (x2 : Vec Ideal S4x1024 .f32) (x3 : Vec Ideal S1x1024 .f32) (x4 : Vec Ideal S4x256x256 .bf16) (x5 : Vec Ideal S1x1024 .f32) (x6 : Vec Ideal S4x256x256 .bf16) (x7 : Vec Ideal S1x1024 .f32) (x8 : Vec Ideal S1x1024 .f32) (r : Fin 256) (d : Fin 1024) :
    out0_A_9 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 x7 x8 (ix2 r d) = lru (par x2 x3 x4 x5 x6 x7 x8) (fun n => xb (k0_pay2 (F := Ideal)) x0 (n + 5)) 0 r.val d * gelu (x1 (ix2 r d)) := by
  frame_out
  canon_tiles y h
  · replace h0 : r.val = (y 0).val := by
      first | exact h0 | (simpa using h0)
    replace h1 : d.val = 256 * ((3 : Fin 4) : ℕ) + (y 1).val := by
      first | exact h1 | (simpa using h1)
    refine (congrFun (show _ = outV (lds arg12.view (k0_pay2 (F := Ideal)) x0 x2 x3 x4 x5 x6 x7 x8 3).U (lds arg12.view (k0_pay2 (F := Ideal)) x0 x2 x3 x4 x5 x6 x7 x8 3).A _ _ from rfl) _).trans ?_
    exact out_close (lds_is arg12.view (k0_pay2 (F := Ideal)) x0 x2 x3 x4 x5 x6 x7 x8 3) _ _ y r d h0 h1 _ _ (car_zero _ _ 768 _ (by decide) _ (skip 512 _ _ _ _ (by decide) (skip 256 _ _ _ _ (by decide) (skip 0 _ _ _ _ (by decide) (fun d _ => base_zero d))))) (ld_blk x1 3 r _ d h1)
  · replace h0 : r.val = (y 0).val := by
      first | exact h0 | (simpa using h0)
    replace h1 : d.val = 256 * ((2 : Fin 4) : ℕ) + (y 1).val := by
      first | exact h1 | (simpa using h1)
    refine (congrFun (show _ = outV (lds arg12.view (k0_pay2 (F := Ideal)) x0 x2 x3 x4 x5 x6 x7 x8 2).U (lds arg12.view (k0_pay2 (F := Ideal)) x0 x2 x3 x4 x5 x6 x7 x8 2).A _ _ from rfl) _).trans ?_
    exact out_close (lds_is arg12.view (k0_pay2 (F := Ideal)) x0 x2 x3 x4 x5 x6 x7 x8 2) _ _ y r d h0 h1 _ _ (car_zero _ _ 512 _ (by decide) _ (skip 256 _ _ _ _ (by decide) (skip 0 _ _ _ _ (by decide) (fun d _ => base_zero d)))) (ld_blk x1 2 r _ d h1)
  · replace h0 : r.val = (y 0).val := by
      first | exact h0 | (simpa using h0)
    replace h1 : d.val = 256 * ((1 : Fin 4) : ℕ) + (y 1).val := by
      first | exact h1 | (simpa using h1)
    refine (congrFun (show _ = outV (lds arg12.view (k0_pay2 (F := Ideal)) x0 x2 x3 x4 x5 x6 x7 x8 1).U (lds arg12.view (k0_pay2 (F := Ideal)) x0 x2 x3 x4 x5 x6 x7 x8 1).A _ _ from rfl) _).trans ?_
    exact out_close (lds_is arg12.view (k0_pay2 (F := Ideal)) x0 x2 x3 x4 x5 x6 x7 x8 1) _ _ y r d h0 h1 _ _ (car_zero _ _ 256 _ (by decide) _ (skip 0 _ _ _ _ (by decide) (fun d _ => base_zero d))) (ld_blk x1 1 r _ d h1)
  · replace h0 : r.val = (y 0).val := by
      first | exact h0 | (simpa using h0)
    replace h1 : d.val = 256 * ((0 : Fin 4) : ℕ) + (y 1).val := by
      first | exact h1 | (simpa using h1)
    refine (congrFun (show _ = outV (lds arg12.view (k0_pay2 (F := Ideal)) x0 x2 x3 x4 x5 x6 x7 x8 0).U (lds arg12.view (k0_pay2 (F := Ideal)) x0 x2 x3 x4 x5 x6 x7 x8 0).A _ _ from rfl) _).trans ?_
    exact out_close (lds_is arg12.view (k0_pay2 (F := Ideal)) x0 x2 x3 x4 x5 x6 x7 x8 0) _ _ y r d h0 h1 _ _ (car_zero _ _ 0 _ (by decide) _ (fun d _ => base_zero d)) (ld_blk x1 0 r _ d h1)

end Cert.LruCases
-- ==== Proof.LruBlocks.lean ====
/- The blocks the recurrence call reads at a grid point, as reads of the arguments: row tile `t` of the projections' first
   two column blocks, and the layer's convolution, gates and decay. -/
module

public import proofs.«01_k».proof.Proof.Gen.Kernel6Ideal.Frame
public import Idealize.ShloMosaic.Lib.Pipeline.ValueKit
public import Idealize.ShloMosaic.Lib.Pointwise
public import Idealize.ShloMosaic.Lib.StableHlo.ReadAt
public import proofs.«01_k».proof.Proof.LruLoads

@[expose] public section

set_option maxRecDepth 16384

noncomputable section

namespace Cert.LruBlocks

open Cert.LruMath Cert.LruLoads Cert.Kernel6Ideal Cert.Kernel6Ideal.Gen Idealize.ShloMosaic Idealize.ShloMosaic.TcCoe

variable (m : (ℓ : Loc nD τ sig) → Buf (Elt Ideal) ℓ) (c : Dev nD)

/-- The projections. -/
def proj (R : Fin 16384) (C : Fin 6144) : EReal := (m ((c : Thread nD τ).loc main_arg0) : Vec Ideal S16384x6144 .f32) (ix2 R C)

/-- The layer's weights. -/
def pars : Par where
  w := fun j d => (m ((c : Thread nD τ).loc main_arg1) : Vec Ideal S1x4x1024 .f32) (ix3 0 j d)
  b := fun d => (m ((c : Thread nD τ).loc main_arg2) : Vec Ideal S1x1024 .f32) (ix2 0 d)
  wa := fun h k d => (m ((c : Thread nD τ).loc main_arg3) : Vec Ideal S1x4x256x256 .f32) (ix4 0 h k d)
  ba := fun d => (m ((c : Thread nD τ).loc main_arg4) : Vec Ideal S1x1024 .f32) (ix2 0 d)
  wi := fun h k d => (m ((c : Thread nD τ).loc main_arg5) : Vec Ideal S1x4x256x256 .f32) (ix4 0 h k d)
  bi := fun d => (m ((c : Thread nD τ).loc main_arg6) : Vec Ideal S1x1024 .f32) (ix2 0 d)
  lam := fun d => (m ((c : Thread nD τ).loc main_arg7) : Vec Ideal S1x1024 .f32) (ix2 0 d)

/-- The index maps over the grid. -/
theorem idx : ∀ t : Fin cfg0.N, win0_0.index t = ![t.val, 0] ∧ win0_1.index t = ![t.val, 1] ∧ win0_2.index t = ![0, 0]
    ∧ win0_3.index t = ![0, 0] ∧ win0_4.index t = ![0, 0, 0] ∧ win0_5.index t = ![0, 0] ∧ win0_6.index t = ![0, 0, 0]
    ∧ win0_7.index t = ![0, 0] ∧ win0_8.index t = ![0, 0] :=
  (by decide +kernel : ∀ t : Fin grid0.N, _)

/-- Row `r` of the tile that point `t` works on. -/
def row (t : Fin cfg0.N) (r : Fin 256) : Fin 16384 :=
  ⟨256 * t.val + r.val, by have := r.isLt; have := lt_of_lt_of_eq t.isLt (show cfg0.N = 64 from N_0); omega⟩

/-- A column of the recurrence's input, and one of its gate's. -/
def colX (d : Fin 1024) : Fin 6144 := ⟨d.val, by omega⟩
def colY (d : Fin 1024) : Fin 6144 := ⟨1024 + d.val, by omega⟩

theorem read0 (t : Fin cfg0.N) (r : Fin 256) (d : Fin 1024) : (iblk m c 0 t : Vec Ideal S256x1024 .f32) (ix2 r d) = proj m c (row t r) (colX d) := by
  have hi := idx t
  unfold proj row colX
  blk_ext! [iblk, hi.1]

theorem read1 (t : Fin cfg0.N) (r : Fin 256) (d : Fin 1024) : (iblk m c 1 t : Vec Ideal S256x1024 .f32) (ix2 r d) = proj m c (row t r) (colY d) := by
  have hi := idx t
  unfold proj row colY
  blk_ext! [iblk, hi.2.1]

theorem tab2 (j : Fin 4) (d : Fin 1024) : (V m c main_v0 : Vec Ideal S4x1024 .f32) (ix2 j d) = (pars m c).w j d := by
  unfold V pars
  after_reads_at
theorem tab3 (d : Fin 1024) : (V m c main_v9 : Vec Ideal S1x1024 .f32) (ix2 0 d) = (pars m c).b d := by
  unfold V pars
  after_reads_at
theorem tab4 (h : Fin 4) (k d : Fin 256) : (V m c main_v3 : Vec Ideal S4x256x256 .bf16) (ix3 h k d) = (pars m c).wa h k d := by
  unfold V pars
  after_reads_at
theorem tab5 (d : Fin 1024) : (V m c main_v10 : Vec Ideal S1x1024 .f32) (ix2 0 d) = (pars m c).ba d := by
  unfold V pars
  after_reads_at
theorem tab6 (h : Fin 4) (k d : Fin 256) : (V m c main_v6 : Vec Ideal S4x256x256 .bf16) (ix3 h k d) = (pars m c).wi h k d := by
  unfold V pars
  after_reads_at
theorem tab7 (d : Fin 1024) : (V m c main_v11 : Vec Ideal S1x1024 .f32) (ix2 0 d) = (pars m c).bi d := by
  unfold V pars
  after_reads_at
theorem tab8 (d : Fin 1024) : (V m c main_v12 : Vec Ideal S1x1024 .f32) (ix2 0 d) = (pars m c).lam d := by
  unfold V pars
  after_reads_at

/-- Every point reads the same weights. -/
theorem par_eq (t : Fin cfg0.N) : par (iblk m c 2 t) (iblk m c 3 t) (iblk m c 4 t) (iblk m c 5 t) (iblk m c 6 t) (iblk m c 7 t) (iblk m c 8 t) = pars m c := by
  obtain ⟨-, -, i2, i3, i4, i5, i6, i7, i8⟩ := idx t
  have e2 : ∀ j d, (iblk m c 2 t : Vec Ideal S4x1024 .f32) (ix2 j d) = (pars m c).w j d := fun j d => by
    refine Eq.trans ?_ (tab2 m c j d)
    blk_ext [iblk, i2]
  have e3 : ∀ d, (iblk m c 3 t : Vec Ideal S1x1024 .f32) (ix2 0 d) = (pars m c).b d := fun d => by
    refine Eq.trans ?_ (tab3 m c d)
    blk_ext [iblk, i3]
  have e4 : ∀ h k d, (iblk m c 4 t : Vec Ideal S4x256x256 .bf16) (ix3 h k d) = (pars m c).wa h k d := fun h k d => by
    refine Eq.trans ?_ (tab4 m c h k d)
    blk_ext [iblk, i4]
  have e5 : ∀ d, (iblk m c 5 t : Vec Ideal S1x1024 .f32) (ix2 0 d) = (pars m c).ba d := fun d => by
    refine Eq.trans ?_ (tab5 m c d)
    blk_ext [iblk, i5]
  have e6 : ∀ h k d, (iblk m c 6 t : Vec Ideal S4x256x256 .bf16) (ix3 h k d) = (pars m c).wi h k d := fun h k d => by
    refine Eq.trans ?_ (tab6 m c h k d)
    blk_ext [iblk, i6]
  have e7 : ∀ d, (iblk m c 7 t : Vec Ideal S1x1024 .f32) (ix2 0 d) = (pars m c).bi d := fun d => by
    refine Eq.trans ?_ (tab7 m c d)
    blk_ext [iblk, i7]
  have e8 : ∀ d, (iblk m c 8 t : Vec Ideal S1x1024 .f32) (ix2 0 d) = (pars m c).lam d := fun d => by
    refine Eq.trans ?_ (tab8 m c d)
    blk_ext [iblk, i8]
  unfold par
  simp only [e2, e3, e4, e5, e6, e7, e8]

end Cert.LruBlocks

end
-- ==== Proof.LruFold.lean ====
/- The recurrence call over a sequence: after every point the convolution's rows hold the point's block, the carried row is
   the recurrence at the block's last row, and the stored block is the recurrence times the activation. -/
module

public import proofs.«01_k».proof.Proof.Gen.Kernel6Ideal.Value
public import proofs.«01_k».proof.Proof.LruCases
public import proofs.«01_k».proof.Proof.LruBlocks

@[expose] public section

set_option maxRecDepth 16384

noncomputable section

namespace Cert.LruFold

open Cert.LruMath Cert.LruLoads Cert.LruBlocks Cert.LruCases Cert.Kernel6Ideal Cert.Kernel6Ideal.Gen Idealize.ShloMosaic Idealize.ShloMosaic.TcCoe

/-- The recurrence up to a row reads three rows more. -/
theorem lru_congr (P : Par) {X X' : ℕ → Fin 1024 → EReal} {v v' : EReal} {n : ℕ} (d : Fin 1024) (hX : ∀ k, k ≤ n + 3 → X k = X' k) (hv : v = v') :
    lru P X v n d = lru P X' v' n d := by
  subst hv
  have hc : ∀ r, r ≤ n → ∀ e, conv P X r e = conv P X' r e := fun r hr e => by
    unfold conv
    rw [hX r (by omega), hX (r + 1) (by omega), hX (r + 2) (by omega), hX (r + 3) (by omega)]
  have hl : ∀ r, r ≤ n → la P X r d = la P X' r d := fun r hr => by
    unfold la
    simp only [hc r hr]
  have hd : ∀ r, r ≤ n → da P X r d = da P X' r d := fun r hr => by
    unfold da
    rw [hl r hr]
  refine scan_congr hd fun r hr => ?_
  unfold du gi
  simp only [hc r hr, hl r hr, hd r hr]

/-- The recurrence restarted at row `b`. -/
theorem lru_shift (P : Par) (X : ℕ → Fin 1024 → EReal) (v : EReal) (b : ℕ) (hb : 0 < b) (s : ℕ) (d : Fin 1024) :
    lru P (fun n => X (b + n)) (lru P X v (b - 1) d) s d = lru P X v (b + s) d :=
  scan_shift (fun r => da P X r d) (fun r => du P X r d) v b hb s

/-- The halo at the first point of a sequence. -/
theorem halo_A (k : Fin 8) (d : Fin 1024) : (k0_pay2 (F := Ideal) : Vec Ideal S8x1024 .f32) (ix2 k d) = (0 : EReal) := by
  unfold_payloads
  pointwise

/-- The halo at a later point: the last rows of the point before. -/
theorem halo_B (x : Vec Ideal S264x1024 .f32) (k : Fin 8) (d : Fin 1024) :
    (k0_pay4 (View.ld x (Rect.unit ![256, 0] ![8, 1024] inb_S264x1024_S8x1024_256_0)) : Vec Ideal S8x1024 .f32) (ix2 k d)
      = x (ix2 ⟨256 + k.val, by have := k.isLt; omega⟩ d) := by
  unfold_payloads
  pointwise

variable (m : (ℓ : Loc nD τ sig) → Buf (Elt Ideal) ℓ) (c : Dev nD)

/-- A sequence's inputs after three rows of zeros. -/
def seq (b : ℕ) (n : ℕ) (d : Fin 1024) : EReal :=
  if h : 3 ≤ n ∧ 8192 * b + (n - 3) < 16384 then proj m c ⟨8192 * b + (n - 3), h.2⟩ (colX d) else 0

/-- The recurrence of a sequence. -/
def H (b n : ℕ) (d : Fin 1024) : EReal := lru (pars m c) (seq m c b) 0 n d

/-- The rows a point's convolution reads. -/
theorem window (t : Fin cfg0.N) (z : Vec Ideal S8x1024 .f32)
    (hz : ∀ (k : Fin 8) (d : Fin 1024), 5 ≤ k.val → z (ix2 k d) = seq m c (t.val / 32) (256 * (t.val % 32) + (k.val - 5)) d)
    (n : ℕ) (hn : n ≤ 258) : xb z (iblk m c 0 t) (n + 5) = fun d => seq m c (t.val / 32) (256 * (t.val % 32) + n) d := by
  have hN := lt_of_lt_of_eq t.isLt (show cfg0.N = 64 from N_0)
  funext d
  unfold xb
  by_cases h : n + 5 < 8
  · rw [dif_pos h]
    exact hz ⟨n + 5, h⟩ d (by simp)
  · rw [dif_neg h, read0]
    unfold seq
    rw [dif_pos (by constructor <;> omega)]
    refine congrArg (proj m c · (colX d)) (Fin.ext ?_)
    show 256 * t.val + (n + 5 - 8) % 256 = 8192 * (t.val / 32) + (256 * (t.val % 32) + n - 3)
    omega

/-- What the scratches hold after a point. -/
def Kept (n : ℕ) (h : n < cfg0.N) : Prop :=
  (∀ (r : Fin 256) (d : Fin 1024), (outsAt0 m c n h).2.1 (ix2 ⟨8 + r.val, by have := r.isLt; omega⟩ d) = proj m c (row ⟨n, h⟩ r) (colX d))
  ∧ (∀ d : Fin 1024, (outsAt0 m c n h).2.2 (ix2 0 d) = H m c (n / 32) (256 * (n % 32) + 255) d)

/-- What a point stores. -/
def Stored (n : ℕ) (h : n < cfg0.N) : Prop :=
  ∀ (r : Fin 256) (d : Fin 1024), (outsAt0 m c n h).1 (ix2 r d) = H m c (n / 32) (256 * (n % 32) + r.val) d * gelu (proj m c (row ⟨n, h⟩ r) (colY d))

/-- The block's rows among the convolution's. -/
theorem rows (t : Fin cfg0.N) (z : Vec Ideal S8x1024 .f32) (r : Fin 256) (d : Fin 1024) :
    xb z (iblk m c 0 t) (8 + r.val) d = proj m c (row t r) (colX d) := by
  have hr := r.isLt
  unfold xb
  rw [dif_neg (by omega), read0]
  exact congrArg (fun k => proj m c (row t k) (colX d)) (Fin.ext (by show (8 + r.val - 8) % 256 = r.val; omega))

/-- The first point of a sequence. -/
theorem first (t : Fin cfg0.N) (h0 : t.val % 32 = 0) : Kept m c t.val t.isLt ∧ Stored m c t.val t.isLt := by
  have hw := window m c t (k0_pay2 (F := Ideal)) fun k d hk => by
    have := k.isLt
    rw [halo_A]
    unfold seq
    rw [dif_neg (by omega)]
  have hH : ∀ (n : ℕ) (d : Fin 1024), n ≤ 255 → lru (pars m c) (fun n => xb (k0_pay2 (F := Ideal)) (iblk m c 0 t) (n + 5)) 0 n d
      = H m c (t.val / 32) (256 * (t.val % 32) + n) d := fun n d hn => by
    refine (lru_congr _ d (fun k hk => hw k (by omega)) rfl).trans ?_
    unfold H
    simp only [h0, Nat.mul_zero, Nat.zero_add]
  unfold Kept Stored
  rw [outsAt0_A m c t h0 (by omega)]
  dsimp only
  refine ⟨⟨fun r d => ?_, fun d => ?_⟩, fun r d => ?_⟩
  · exact (sout_A_0 _ _ _ _ _ _ _ _ _ _ _ _ _ _ _ _ _ _ _ _ _ _ _ _ _ _ _ _ _ _ _ _ _ _ _ _ _ _ d).trans (rows m c t _ r d)
  · refine (sout_A_1 _ _ _ _ _ _ _ _ _ _ _ _ _ _ _ _ _ _ _ _ _ _ _ _ _ _ _ _ _ _ _ _ _ _ _ _ _ d).trans ?_
    rw [par_eq]
    exact hH 255 d le_rfl
  · refine (out_A _ _ _ _ _ _ _ _ _ _ _ _ _ _ _ _ _ _ _ _ _ _ _ _ _ _ _ _ _ _ _ _ _ _ _ _ _ r d).trans ?_
    rw [par_eq, read1, hH r.val d (by have := r.isLt; omega)]

/-- A later point of a sequence. -/
theorem later (n : ℕ) (h : n + 1 < cfg0.N) (h0 : ¬(n + 1) % 32 = 0) (hk : Kept m c n (Nat.lt_of_succ_lt h)) :
    Kept m c (n + 1) h ∧ Stored m c (n + 1) h := by
  obtain ⟨k0, k1⟩ := hk
  have hN := lt_of_lt_of_eq h (show cfg0.N = 64 from N_0)
  have hw := window m c ⟨n + 1, h⟩
    (k0_pay4 (View.ld ((outsAt0 m c n (Nat.lt_of_succ_lt h)).2.1) (Rect.unit ![256, 0] ![8, 1024] inb_S264x1024_S8x1024_256_0))) fun k d hk => by
    have hk8 := k.isLt
    rw [halo_B]
    refine Eq.trans (congrArg (fun j => (outsAt0 m c n (Nat.lt_of_succ_lt h)).2.1 (ix2 j d)) (Fin.ext ?_)) ((k0 ⟨248 + k.val, by omega⟩ d).trans ?_)
    · show 256 + k.val = 8 + (248 + k.val)
      omega
    · unfold seq
      rw [dif_pos (by dsimp only; constructor <;> omega)]
      refine congrArg (proj m c · (colX d)) (Fin.ext ?_)
      show 256 * n + (248 + k.val) = 8192 * ((n + 1) / 32) + (256 * ((n + 1) % 32) + (k.val - 5) - 3)
      omega
  have hH : ∀ (s : ℕ) (d : Fin 1024), s ≤ 255 → lru (pars m c) (fun i => xb (k0_pay4 (View.ld ((outsAt0 m c n (Nat.lt_of_succ_lt h)).2.1)
      (Rect.unit ![256, 0] ![8, 1024] inb_S264x1024_S8x1024_256_0))) (iblk m c 0 ⟨n + 1, h⟩) (i + 5)) ((outsAt0 m c n (Nat.lt_of_succ_lt h)).2.2 (ix2 0 d)) s d
      = H m c ((n + 1) / 32) (256 * ((n + 1) % 32) + s) d := fun s d hs => by
    refine (lru_congr _ d (fun k hk => hw k (by omega)) ((k1 d).trans ?_)).trans
      (lru_shift (pars m c) (seq m c ((n + 1) / 32)) 0 (256 * ((n + 1) % 32)) (by omega) s d)
    unfold H
    rw [show n / 32 = (n + 1) / 32 by omega, show 256 * (n % 32) + 255 = 256 * ((n + 1) % 32) - 1 by omega]
  unfold Kept Stored
  rw [outsAt0_B m c ⟨n + 1, h⟩ h0 (by dsimp only; omega)]
  dsimp only
  refine ⟨⟨fun r d => ?_, fun d => ?_⟩, fun r d => ?_⟩
  · exact (sout_B_0 _ _ _ _ _ _ _ _ _ _ _ _ _ _ _ _ _ _ _ _ _ _ _ _ _ _ _ _ _ _ _ _ _ _ _ _ _ _ _ _ d).trans (rows m c ⟨n + 1, h⟩ _ r d)
  · refine (sout_B_1 _ _ _ _ _ _ _ _ _ _ _ _ _ _ _ _ _ _ _ _ _ _ _ _ _ _ _ _ _ _ _ _ _ _ _ _ _ _ _ d).trans ?_
    rw [par_eq]
    exact hH 255 d le_rfl
  · refine (out_B _ _ _ _ _ _ _ _ _ _ _ _ _ _ _ _ _ _ _ _ _ _ _ _ _ _ _ _ _ _ _ _ _ _ _ _ _ _ _ r d).trans ?_
    rw [par_eq, read1]
    exact congrArg (· * _) (hH r.val d (by have := r.isLt; omega))

/-- Every point's scratches and block. -/
theorem outs_eq : ∀ (n : ℕ) (h : n < cfg0.N), Kept m c n h ∧ Stored m c n h := by
  intro n
  induction n with
  | zero => intro h; exact first m c ⟨0, h⟩ rfl
  | succ n ih =>
    intro h
    by_cases h0 : (n + 1) % 32 = 0
    · exact first m c ⟨n + 1, h⟩ h0
    · exact later m c n h h0 (ih (Nat.lt_of_succ_lt h)).1

/-- The array after the run, at row `R` and column `d`. -/
theorem result (R : Fin 16384) (d : Fin 1024) :
    (Value.G9 m c : Vec Ideal S16384x1024 .bf16) (ix2 R d) = H m c (R.val / 8192) (R.val % 8192) d * gelu (proj m c R (colY d)) := by
  have hN : cfg0.N = 64 := N_0
  have hR := R.isLt
  have hp : Value.pt9Of (ix2 R d) = R.val / 256 := by
    show 1 * (R.val / 256 - 0) + 1 * (d.val / 1024 - 0) = _
    have := d.isLt
    omega
  have hb : R.val / 256 < cfg0.N := by omega
  unfold Value.G9
  rw [dif_pos (by rw [hp]; exact hb), ← Value.outsAt0_sweep m c _ (by rw [hp]; exact hb)]
  have key : ∀ (p : ℕ) (hp : p < cfg0.N), p = R.val / 256 → ∀ (i : S256x1024.Idx), i = ix2 ⟨R.val % 256, Nat.mod_lt _ (by decide)⟩ d →
      (outsAt0 m c p hp).1 i = H m c (R.val / 8192) (R.val % 8192) d * gelu (proj m c R (colY d)) := by
    rintro p hp rfl i rfl
    rw [(outs_eq m c _ hp).2]
    have hrow : row ⟨R.val / 256, hp⟩ ⟨R.val % 256, Nat.mod_lt _ (by decide)⟩ = R :=
      Fin.ext (by show 256 * (R.val / 256) + R.val % 256 = R.val; omega)
    rw [hrow, show R.val / 256 / 32 = R.val / 8192 by omega]
    refine congrArg (fun n => H m c (R.val / 8192) n d * _) ?_
    show 256 * (R.val / 256 % 32) + R.val % 256 = R.val % 8192
    omega
  refine key _ _ hp _ ?_
  funext a
  fin_cases a
  · rfl
  · exact Fin.ext (Nat.mod_eq_of_lt d.isLt)

end Cert.LruFold

end
-- ==== Proof.LruRef.lean ====
/- The recurrence's reference as stages: the causal convolution, the two gates, the decay, and the gated input of the
   recurrence, each read at a batch, a row and a column. -/
module

public import proofs.«01_k».proof.Proof.Gen.Reference6Ideal.Run
public import Idealize.ShloMosaic.Lib.Pointwise
public import Idealize.ShloMosaic.Lib.StableHlo.ReadAt
public import proofs.«01_k».proof.Proof.LruMath

@[expose] public section

set_option maxRecDepth 16384

noncomputable section

namespace Cert.LruRef

open Cert.LruMath Cert.Reference6Ideal Cert.Reference6Ideal.Gen Idealize.ShloMosaic Idealize.ShloMosaic.TcCoe

/-- The recurrence's input after three rows of zeros. -/
def padV (p : FVec Ideal S16384x6144 .f32) : FVec Ideal S2x8195x1024 .f32 :=
  pad S2x8195x1024 ![0, 3, 0] ![0, 0, 0] ![0, 0, 0] (extractStridedSlice S2x8192x1024 ![0, 0, 0] (shapeCast S2x8192x6144 p shapeCasts_S16384x6144_S2x8192x6144) slices_S2x8192x6144_S2x8192x1024_0_0_0)
    (sitofp .f32 (constantI S_ 32 0#32)) pads_S2x8192x1024_S2x8195x1024_000_300_000 h_S_

/-- A row over the batches and the rows. -/
def rowV (x : FVec Ideal S1024 .f32) : FVec Ideal S2x8192x1024 .f32 :=
  broadcastInDim S2x8192x1024 ![0, 1, 2] bcast_S1x1x1024_S2x8192x1024_0_1_2 (broadcastInDim S1x1x1024 ![2] bcast_S1024_S1x1x1024_2 x)

/-- The convolution. -/
def convV (p : FVec Ideal S16384x6144 .f32) (w : FVec Ideal S1x4x1024 .f32) (b : FVec Ideal S1x1024 .f32) : FVec Ideal S2x8192x1024 .f32 :=
  addf (addf (addf (addf
      (mulf (rowV (shapeCast S1024 (extractStridedSlice S1x1024 ![0, 0] (shapeCast S4x1024 w shapeCasts_S1x4x1024_S4x1024) slices_S4x1024_S1x1024_0_0) shapeCasts_S1x1024_S1024)) (extractStridedSlice S2x8192x1024 ![0, 0, 0] (padV p) slices_S2x8195x1024_S2x8192x1024_0_0_0))
      (mulf (rowV (shapeCast S1024 (extractStridedSlice S1x1024 ![1, 0] (shapeCast S4x1024 w shapeCasts_S1x4x1024_S4x1024) slices_S4x1024_S1x1024_1_0) shapeCasts_S1x1024_S1024)) (extractStridedSlice S2x8192x1024 ![0, 1, 0] (padV p) slices_S2x8195x1024_S2x8192x1024_0_1_0)))
      (mulf (rowV (shapeCast S1024 (extractStridedSlice S1x1024 ![2, 0] (shapeCast S4x1024 w shapeCasts_S1x4x1024_S4x1024) slices_S4x1024_S1x1024_2_0) shapeCasts_S1x1024_S1024)) (extractStridedSlice S2x8192x1024 ![0, 2, 0] (padV p) slices_S2x8195x1024_S2x8192x1024_0_2_0)))
      (mulf (rowV (shapeCast S1024 (extractStridedSlice S1x1024 ![3, 0] (shapeCast S4x1024 w shapeCasts_S1x4x1024_S4x1024) slices_S4x1024_S1x1024_3_0) shapeCasts_S1x1024_S1024)) (extractStridedSlice S2x8192x1024 ![0, 3, 0] (padV p) slices_S2x8195x1024_S2x8192x1024_0_3_0)))
    (rowV (shapeCast S1024 b shapeCasts_S1x1024_S1024))

/-- A gate of the convolution's rows. -/
def gateV (x : FVec Ideal S2x8192x1024 .f32) (w : FVec Ideal S1x4x256x256 .f32) (b : FVec Ideal S1x1024 .f32) : FVec Ideal S2x8192x1024 .f32 :=
  Host.divf (broadcastInDim S2x8192x1024 ![] bcast_S_S2x8192x1024 (constant S_ .f32 0x3F800000#32))
    (addf (broadcastInDim S2x8192x1024 ![] bcast_S_S2x8192x1024 (constant S_ .f32 0x3F800000#32))
      (Host.exp (Host.negf (addf (shapeCast S2x8192x1024 (transpose S2x8192x4x256 [2, 3, 0, 1]
        (Host.dotGeneral dot_S4x256x256_S2x8192x4x256_S4x256x2x8192_1_3_2_01_0_2 none (shapeCast S4x256x256 w shapeCasts_S1x4x256x256_S4x256x256)
          (shapeCast S2x8192x4x256 x shapeCasts_S2x8192x1024_S2x8192x4x256)) transposes_S4x256x2x8192_S2x8192x4x256_2_3_0_1) shapeCasts_S2x8192x4x256_S2x8192x1024)
        (rowV (shapeCast S1024 b shapeCasts_S1x1024_S1024))))))

/-- The softplus of the negated decay parameter. -/
def spV (l : FVec Ideal S1x1024 .f32) : FVec Ideal S1024 .f32 :=
  let x : FVec Ideal S1024 .f32 := Host.negf (shapeCast S1024 l shapeCasts_S1x1024_S1024)
  let z : FVec Ideal S1024 .f32 := broadcastInDim S1024 ![] bcast_S_S1024 (constant S_ .f32 0x00000000#32)
  select (cmpf .une (subf x z) (subf x z)) (addf x z) (addf (maximumf x z) (Host.log1p (Host.exp (Host.negf (Host.absf (subf x z))))))

/-- The logarithm of the decay. -/
def laV (x : FVec Ideal S2x8192x1024 .f32) (w : FVec Ideal S1x4x256x256 .f32) (b l : FVec Ideal S1x1024 .f32) : FVec Ideal S2x8192x1024 .f32 :=
  mulf (mulf (broadcastInDim S2x8192x1024 ![] bcast_S_S2x8192x1024 (constant S_ .f32 0xC1000000#32)) (gateV x w b)) (rowV (spV l))

/-- The gated input of the recurrence. -/
def uV (x la : FVec Ideal S2x8192x1024 .f32) (w : FVec Ideal S1x4x256x256 .f32) (b : FVec Ideal S1x1024 .f32) : FVec Ideal S2x8192x1024 .f32 :=
  mulf (Host.sqrt (Host.negf (Host.expm1 (mulf (broadcastInDim S2x8192x1024 ![] bcast_S_S2x8192x1024 (constant S_ .f32 0x40000000#32)) la)))) (mulf (gateV x w b) x)

theorem padV_apply (p : FVec Ideal S16384x6144 .f32) (b : Fin 2) (n : Fin 8195) (d : Fin 1024) :
    padV p (ix3 b n d) = if h : 3 ≤ n.val ∧ 8192 * b.val + (n.val - 3) < 16384 then p (ix2 ⟨8192 * b.val + (n.val - 3), h.2⟩ ⟨d.val, by omega⟩) else 0 := by
  have hb := b.isLt
  have hn := n.isLt
  pointwise [padV]
  by_cases h : 3 ≤ n.val
  · rw [dif_pos ⟨h, by omega⟩, dif_pos ⟨h, by omega⟩]
    refine congrArg (fun r => p (ix2 r _)) (Fin.ext ?_)
    show b.val * 8192 + (n.val - 3) = 8192 * b.val + (n.val - 3)
    omega
  · rw [dif_neg (fun e => h e.1), dif_neg (fun e => h e.1)]
    show (((0#32 : BitVec 32).toInt : ℝ) : EReal) = 0
    simp

theorem rowV_apply (x : FVec Ideal S1024 .f32) (b : Fin 2) (n : Fin 8192) (d : Fin 1024) : rowV x (ix3 b n d) = x (ix1 d) := by
  pointwise [rowV]

theorem spV_apply (l : FVec Ideal S1x1024 .f32) (d : Fin 1024) : spV l (ix1 d) = sp (l (ix2 0 d)) := by
  unfold sp
  pointwise [spV]
  rw [if_neg (fun h => h rfl)]
  rfl

theorem lit2 : Ideal.ofBits .f32 0x40000000#32 = ((2 : ℝ) : EReal) := by
  simp [Ideal.ofBits, Ideal.ieee, -EReal.coe_mul]
  norm_num

/-- The convolution is the plain one of the padded rows. -/
theorem convV_apply (p : FVec Ideal S16384x6144 .f32) (w : FVec Ideal S1x4x1024 .f32) (b : FVec Ideal S1x1024 .f32) (P : Par) (X : ℕ → Fin 1024 → EReal)
    (a : Fin 2) (hw : ∀ j d, P.w j d = w (ix3 0 j d)) (hb : ∀ d, P.b d = b (ix2 0 d)) (hX : ∀ (n : Fin 8195) (d : Fin 1024), padV p (ix3 a n d) = X n.val d)
    (n : Fin 8192) (d : Fin 1024) : convV p w b (ix3 a n d) = conv P X n.val d := by
  unfold conv
  simp only [convV]
  pointwise [rowV_apply, hX]
  rw [hw, hw, hw, hw, hb, show (1 + n.val) = n.val + 1 from Nat.add_comm .., show (2 + n.val) = n.val + 2 from Nat.add_comm .., show (3 + n.val) = n.val + 3 from Nat.add_comm ..,
    add_comm _ (b (ix2 0 d))]
  simp only [← add_assoc]

theorem gateV_apply (x : FVec Ideal S2x8192x1024 .f32) (w : FVec Ideal S1x4x256x256 .f32) (b : FVec Ideal S1x1024 .f32) (a : Fin 2) (n : Fin 8192) (d : Fin 1024) :
    gateV x w b (ix3 a n d) = gate (fun k => x (ix3 a n (col (hd d) k))) (fun k => w (ix4 0 (hd d) k (ln d))) (b (ix2 0 d)) := by
  unfold gate
  pointwise [gateV, rowV_apply]
  rw [show (∑ k : Fin 256, x (ix3 a n (col (hd d) k)) * w (ix4 0 (hd d) k (ln d)))
      = ∑ k : Fin 256, w (ix4 0 (hd d) k (ln d)) * x (ix3 a n (col (hd d) k)) from Finset.sum_congr rfl fun k _ => mul_comm _ _]
  have e : ∀ k : Fin 256, (⟨d.val / 256 * 256 + k.val, by omega⟩ : Fin 1024) = col (hd d) k := fun k =>
    Fin.ext (by show d.val / 256 * 256 + k.val = 256 * (d.val / 256) + k.val; omega)
  simp only [e]
  rfl

theorem laV_apply (x : FVec Ideal S2x8192x1024 .f32) (w : FVec Ideal S1x4x256x256 .f32) (b l : FVec Ideal S1x1024 .f32) (P : Par) (X : ℕ → Fin 1024 → EReal)
    (a : Fin 2) (n : Fin 8192) (d : Fin 1024) (hx : ∀ e, x (ix3 a n e) = conv P X n.val e) (hw : ∀ h k e, P.wa h k e = w (ix4 0 h k e))
    (hb : ∀ e, P.ba e = b (ix2 0 e)) (hl : ∀ e, P.lam e = l (ix2 0 e)) : laV x w b l (ix3 a n d) = la P X n.val d := by
  unfold la
  pointwise [laV, rowV_apply, spV_apply, gateV_apply]
  simp only [hx, hw, hb, hl]

theorem uV_apply (x g : FVec Ideal S2x8192x1024 .f32) (w : FVec Ideal S1x4x256x256 .f32) (b : FVec Ideal S1x1024 .f32) (P : Par) (X : ℕ → Fin 1024 → EReal)
    (a : Fin 2) (n : Fin 8192) (d : Fin 1024) (hx : ∀ e, x (ix3 a n e) = conv P X n.val e) (hg : g (ix3 a n d) = la P X n.val d)
    (hw : ∀ h k e, P.wi h k e = w (ix4 0 h k e)) (hb : ∀ e, P.bi e = b (ix2 0 e)) : uV x g w b (ix3 a n d) = du P X n.val d := by
  unfold du da gi
  rw [expm1_eq (la_nonpos P X n.val d)]
  pointwise [uV, gateV_apply]
  simp only [hx, hw, hb, hg]
  rw [lit2]

end Cert.LruRef

end
-- ==== Proof.LruLoop.lean ====
/- The reference's loop over the rows: after `k` trips the carried row is the recurrence at row `k - 1`, and the first `k`
   rows of the output are the recurrence's. -/
module

public import proofs.«01_k».proof.Proof.Gen.Reference6Ideal.Run
public import Idealize.ShloMosaic.Lib.Pointwise
public import Idealize.ShloMosaic.Lib.DynamicIndex
public import Idealize.ShloMosaic.Lib.WordCmp
public import Idealize.ShloMosaic.Lib.StableHlo.ReadAt
public import proofs.«01_k».proof.Proof.LruMath

@[expose] public section

set_option maxRecDepth 16384

noncomputable section

namespace Cert.LruLoop

open Idealize.ShloMosaic.StableHlo Cert.LruMath Cert.Reference6Ideal Cert.Reference6Ideal.Gen Cert.Reference6Ideal.Value Idealize.ShloMosaic Idealize.ShloMosaic.TcCoe

/-- The starts of a trip's slices. -/
abbrev start (ct : (⟨S_, .i32⟩ : BufTy).Contents (Elt Ideal)) : Fin 3 → Int := fun q =>
  (((![ct, constantI S_ 32 0#32, constantI S_ 32 0#32] : Fin 3 → (⟨S_, .i32⟩ : BufTy).Contents (Elt Ideal))) q (Shape.Idx.first h_S_)).toInt

/-- A trip's row of an array. -/
def sliceV (A : FVec Ideal S8192x2x1024 .f32) (ct : (⟨S_, .i32⟩ : BufTy).Contents (Elt Ideal)) : FVec Ideal S2x1024 .f32 :=
  shapeCast S2x1024 (Host.dynamicSlice S1x2x1024 A (start ct) sliceFits_S8192x2x1024_S1x2x1024) shapeCasts_S1x2x1024_S2x1024

/-- The next carried row. -/
def nextV (A U : FVec Ideal S8192x2x1024 .f32) (ct : (⟨S_, .i32⟩ : BufTy).Contents (Elt Ideal)) (h : FVec Ideal S2x1024 .f32) : FVec Ideal S2x1024 .f32 :=
  addf (mulf (sliceV A ct) h) (sliceV U ct)

/-- The output with a trip's row written. -/
def putV (Y : FVec Ideal S8192x2x1024 .f32) (ct : (⟨S_, .i32⟩ : BufTy).Contents (Elt Ideal)) (h : FVec Ideal S2x1024 .f32) : FVec Ideal S8192x2x1024 .f32 :=
  Host.dynamicUpdateSlice Y (broadcastInDim S1x2x1024 ![1, 2] bcast_S2x1024_S1x2x1024_1_2 h) (start ct) updateFits_S8192x2x1024_S1x2x1024

theorem start_eq (k : ℕ) (hk : k < 8192) (a : Fin 3) : start (fun _ => Scf.iv 0#32 1#32 k) a = ((![k, 0, 0] : Fin 3 → ℕ) a : Int) := by
  have e : (Scf.iv 0#32 1#32 k).toInt = (k : Int) := by
    have : Scf.iv 0#32 1#32 k = BitVec.ofNat 32 k := by simp [Scf.iv]
    rw [this]
    exact toInt_ofNat_of_lt (by omega)
  fin_cases a
  · exact e
  · rfl
  · rfl

theorem fits (k : ℕ) (hk : k < 8192) : S8192x2x1024.Slices ![k, 0, 0] S1x2x1024 :=
  ⟨rfl, fun a => by fin_cases a <;> simp <;> omega⟩

theorem sliceV_apply (A : FVec Ideal S8192x2x1024 .f32) (k : ℕ) (hk : k < 8192) (b : Fin 2) (d : Fin 1024) :
    sliceV A (fun _ => Scf.iv 0#32 1#32 k) (ix2 b d) = A (ix3 ⟨k, hk⟩ b d) := by
  unfold sliceV
  rw [Host.dynamicSlice_eq_extractStridedSlice _ _ _ ![k, 0, 0] _ (fits k hk) (start_eq k hk)]
  pointwise

theorem putV_apply (Y : FVec Ideal S8192x2x1024 .f32) (k : ℕ) (hk : k < 8192) (h : FVec Ideal S2x1024 .f32) (r : Fin 8192) (b : Fin 2) (d : Fin 1024) :
    putV Y (fun _ => Scf.iv 0#32 1#32 k) h (ix3 r b d) = if r.val = k then h (ix2 b d) else Y (ix3 r b d) := by
  unfold putV
  rw [WordCmp.dynamicUpdateSlice_eq_update _ _ _ _ ![k, 0, 0] (fits k hk) (start_eq k hk)]
  pointwise
  exact if_congr ⟨fun h => by omega, fun h => by omega⟩ rfl rfl

/-- The recurrence before row `k`. -/
def before (a u : ℕ → EReal) : ℕ → EReal
  | 0 => 0
  | k + 1 => scan a u 0 k

theorem before_succ (a u : ℕ → EReal) (k : ℕ) : a k * before a u k + u k = before a u (k + 1) := by
  rw [add_comm]
  cases k with
  | zero => rfl
  | succ k => rfl

variable (m : (ℓ : Loc nD τ sig) → Buf (Elt Ideal) ℓ) (c : Dev nD)

/-- The loop's arrays at its entry. -/
def A0 : FVec Ideal S8192x2x1024 .f32 := entryContents preI m c (Proc.devRef .tc main_v85_0)
def U0 : FVec Ideal S8192x2x1024 .f32 := entryContents preI m c (Proc.devRef .tc main_v85_1)

/-- A column's decays and inputs. -/
def sa (b : Fin 2) (d : Fin 1024) (n : ℕ) : EReal := A0 m c (ix3 ⟨n % 8192, Nat.mod_lt _ (by decide)⟩ b d)
def su (b : Fin 2) (d : Fin 1024) (n : ℕ) : EReal := U0 m c (ix3 ⟨n % 8192, Nat.mod_lt _ (by decide)⟩ b d)

/-- What a trip leaves, of what it finds. -/
theorem trip3 (V0 : Valuation τ sig (Elt Ideal)) : (afterL bodyI V0 (Proc.devRef .tc main_v85_3) : FVec Ideal S2x1024 .f32)
    = nextV (V0 (Proc.devRef .tc main_v85_0)) (V0 (Proc.devRef .tc main_v85_1)) (V0 (Proc.devRef .tc main_v85_2)) (V0 (Proc.devRef .tc main_v85_3)) :=
  trip_main_v85_3 V0

theorem trip4 (V0 : Valuation τ sig (Elt Ideal)) : (afterL bodyI V0 (Proc.devRef .tc main_v85_4) : FVec Ideal S8192x2x1024 .f32)
    = putV (V0 (Proc.devRef .tc main_v85_4)) (V0 (Proc.devRef .tc main_v85_2))
      (nextV (V0 (Proc.devRef .tc main_v85_0)) (V0 (Proc.devRef .tc main_v85_1)) (V0 (Proc.devRef .tc main_v85_2)) (V0 (Proc.devRef .tc main_v85_3))) :=
  trip_main_v85_4 V0

theorem entry3 : (entryContents preI m c (Proc.devRef .tc main_v85_3) : FVec Ideal S2x1024 .f32)
    = (broadcastInDim S2x1024 ![] bcast_S_S2x1024 (constant S_ .f32 0x00000000#32) : FVec Ideal S2x1024 .f32) := by
  simp only [entryContents, afterL_cons, afterL_nil]
  after_reads_simp
  rfl

/-- The loop's invariant. -/
theorem inv : ∀ k, k ≤ 8192 →
    (atK m k c (Proc.devRef .tc main_v85_0) : FVec Ideal S8192x2x1024 .f32) = A0 m c
    ∧ (atK m k c (Proc.devRef .tc main_v85_1) : FVec Ideal S8192x2x1024 .f32) = U0 m c
    ∧ (∀ b d, (atK m k c (Proc.devRef .tc main_v85_3) : FVec Ideal S2x1024 .f32) (ix2 b d) = before (sa m c b d) (su m c b d) k)
    ∧ (∀ (r : Fin 8192) b d, r.val < k → (atK m k c (Proc.devRef .tc main_v85_4) : FVec Ideal S8192x2x1024 .f32) (ix3 r b d) = scan (sa m c b d) (su m c b d) 0 r.val) := by
  intro k
  induction k with
  | zero =>
    intro _
    refine ⟨rfl, rfl, fun b d => ?_, fun r b d h => absurd h (Nat.not_lt_zero _)⟩
    refine (congrFun (entry3 m c) (ix2 b d)).trans ?_
    pointwise
    rfl
  | succ k ih =>
    intro hk
    obtain ⟨i0, i1, i3, i4⟩ := ih (by omega)
    have e0 := (cond_keeps (atK m k c) main_v85_0 (by decide)).trans i0
    have e1 := (cond_keeps (atK m k c) main_v85_1 (by decide)).trans i1
    have e2 := (cond_keeps (atK m k c) main_v85_2 (by decide)).trans (atK_ctr m c k)
    have e3 := cond_keeps (atK m k c) main_v85_3 (by decide)
    have e4 := cond_keeps (atK m k c) main_v85_4 (by decide)
    have hn : ∀ b d, nextV (A0 m c) (U0 m c) (fun _ => Scf.iv 0#32 1#32 k) (atK m k c (Proc.devRef .tc main_v85_3)) (ix2 b d)
        = before (sa m c b d) (su m c b d) (k + 1) := fun b d => by
      pointwise [nextV, sliceV_apply _ k (by omega)]
      refine Eq.trans ?_ (before_succ (sa m c b d) (su m c b d) k)
      rw [← i3 b d]
      unfold sa su
      simp only [Nat.mod_eq_of_lt (show k < 8192 by omega)]
    refine ⟨(trip_main_v85_0 _).trans e0, (trip_main_v85_1 _).trans e1, fun b d => ?_, fun r b d hr => ?_⟩
    · refine (congrFun (trip3 (after condOps (atK m k c))) (ix2 b d)).trans ?_
      rw [e0, e1, e2, e3]
      exact hn b d
    · refine (congrFun (trip4 (after condOps (atK m k c))) (ix3 r b d)).trans ?_
      rw [e0, e1, e2, e3, e4]
      refine (putV_apply (atK m k c (Proc.devRef .tc main_v85_4)) k (by omega) _ r b d).trans ?_
      by_cases h : r.val = k
      · rw [if_pos h]
        refine (hn b d).trans ?_
        rw [h]
        rfl
      · rw [if_neg h]
        exact i4 r b d (by omega)

/-- What the operations after the loop write. -/
abbrev postW : List (Ref sig .tc) := [main_v86, main_v87, main_v88, main_cst_8, main_v89, main_v90, main_v91, main_cst_9, main_v92, main_v93, main_v94, main_cst_10,
  main_v95, main_v96, main_cst_11, main_v97, main_v98, main_v99, main_v100, main_v101, main_v102]
theorem post_writes : (hostOps0_5 : List (HloOp τ sig (Elt Ideal))).Forall fun op => op.writes ⊆ (postW.map (Proc.devRef (τ := τ) .tc)).toFinset :=
  StableHlo.forall_writes_sub_of_map rfl

/-- A buffer the loop does not write keeps its contents through it. -/
theorem keep_loop (r : Ref sig .tc) (h : ∀ W ∈ [condOps_W, while0Ops0_W, while0Ops0_1_W, while0Ops0_2_W, while0Ops0_3_W, while0Ops0_4_W], r ∉ W) :
    ∀ k, after condOps (atK m k c) (Proc.devRef .tc r) = entryContents preI m c (Proc.devRef .tc r)
  | 0 => after_of_writes_sub condOps _ condOps_writes (h _ (by simp))
  | k + 1 => by
    rw [after_of_writes_sub condOps _ condOps_writes (h _ (by simp)), show atK m (k + 1) c = after while0Ops0_4 (after while0Ops0_3 (after while0Ops0_2 (after while0Ops0_1 (after while0Ops0 (after condOps (atK m k c)))))) from rfl]
    rw [after_of_writes_sub while0Ops0_4 _ while0Ops0_4_writes (h _ (by simp)), after_of_writes_sub while0Ops0_3 _ while0Ops0_3_writes (h _ (by simp)),
      after_of_writes_sub while0Ops0_2 _ while0Ops0_2_writes (h _ (by simp)), after_of_writes_sub while0Ops0_1 _ while0Ops0_1_writes (h _ (by simp)),
      after_of_writes_sub while0Ops0 _ while0Ops0_writes (h _ (by simp)), keep_loop r h k]

/-- An argument is never written. -/
theorem keep (r : Ref sig .tc) (h : ∀ W ∈ [hostOps0_W, hostOps0_1_W, hostOps0_2_W, hostOps0_3_W, hostOps0_4_W, condOps_W, while0Ops0_W, while0Ops0_1_W, while0Ops0_2_W, while0Ops0_3_W, while0Ops0_4_W, postW], r ∉ W) :
    finalContents condOps preI bodyI postI 8192 m c (Proc.devRef .tc r) = m ((c.tc : Thread nD τ).loc r) := by
  rw [show finalContents condOps preI bodyI postI 8192 m c = after hostOps0_5 (after condOps (atK m 8192 c)) from rfl,
    after_of_writes_sub hostOps0_5 _ post_writes (h _ (by simp))]
  refine (keep_loop m c r (fun W hW => h W (by simp only [List.mem_cons] at hW ⊢; tauto)) 8192).trans ?_
  rw [show entryContents preI m c = after hostOps0_4 (after hostOps0_3 (after hostOps0_2 (after hostOps0_1 (after hostOps0 (launchContents m c))))) from rfl,
    after_of_writes_sub hostOps0_4 _ hostOps0_4_writes (h _ (by simp)), after_of_writes_sub hostOps0_3 _ hostOps0_3_writes (h _ (by simp)),
    after_of_writes_sub hostOps0_2 _ hostOps0_2_writes (h _ (by simp)), after_of_writes_sub hostOps0_1 _ hostOps0_1_writes (h _ (by simp)),
    after_of_writes_sub hostOps0 _ hostOps0_writes (h _ (by simp))]

end Cert.LruLoop

end
-- ==== Proof.LruRun.lean ====
/- The recurrence's reference from its arguments to its result: the stages before the loop, the loop, and the gate after it. -/
module

public import proofs.«01_k».proof.Proof.LruRef
public import proofs.«01_k».proof.Proof.LruLoop

@[expose] public section

set_option maxRecDepth 16384

noncomputable section

namespace Cert.LruRun

open Idealize.ShloMosaic.StableHlo Cert.LruMath Cert.LruRef Cert.LruLoop Cert.Reference6Ideal Cert.Reference6Ideal.Gen Cert.Reference6Ideal.Value Idealize.ShloMosaic Idealize.ShloMosaic.TcCoe

variable (m : (ℓ : Loc nD τ sig) → Buf (Elt Ideal) ℓ) (c : Dev nD)

abbrev arg0 : FVec Ideal S16384x6144 .f32 := m ((c : Thread nD τ).loc main_arg0)
abbrev arg1 : FVec Ideal S1x4x1024 .f32 := m ((c : Thread nD τ).loc main_arg1)
abbrev arg2 : FVec Ideal S1x1024 .f32 := m ((c : Thread nD τ).loc main_arg2)
abbrev arg3 : FVec Ideal S1x4x256x256 .f32 := m ((c : Thread nD τ).loc main_arg3)
abbrev arg4 : FVec Ideal S1x1024 .f32 := m ((c : Thread nD τ).loc main_arg4)
abbrev arg5 : FVec Ideal S1x4x256x256 .f32 := m ((c : Thread nD τ).loc main_arg5)
abbrev arg6 : FVec Ideal S1x1024 .f32 := m ((c : Thread nD τ).loc main_arg6)
abbrev arg7 : FVec Ideal S1x1024 .f32 := m ((c : Thread nD τ).loc main_arg7)

/-- The convolution of the arguments, and the logarithm of the decay. -/
def cv : FVec Ideal S2x8192x1024 .f32 := convV (arg0 m c) (arg1 m c) (arg2 m c)
def lg : FVec Ideal S2x8192x1024 .f32 := laV (cv m c) (arg3 m c) (arg4 m c) (arg7 m c)

set_option maxHeartbeats 2000000 in
theorem entry0 : (entryContents preI m c (Proc.devRef .tc main_v85_0) : FVec Ideal S8192x2x1024 .f32)
    = transpose S8192x2x1024 [1, 0, 2] (Host.exp (lg m c)) transposes_S2x8192x1024_S8192x2x1024_1_0_2 := by
  simp only [entryContents, afterL_cons, afterL_nil]
  after_reads_simp
  rfl

set_option maxHeartbeats 2000000 in
theorem entry1 : (entryContents preI m c (Proc.devRef .tc main_v85_1) : FVec Ideal S8192x2x1024 .f32)
    = transpose S8192x2x1024 [1, 0, 2] (uV (cv m c) (lg m c) (arg5 m c) (arg6 m c)) transposes_S2x8192x1024_S8192x2x1024_1_0_2 := by
  simp only [entryContents, afterL_cons, afterL_nil]
  after_reads_simp
  rfl

theorem entryY : (entryContents preI m c (Proc.devRef .tc main_v2) : FVec Ideal S2x8192x1024 .f32)
    = extractStridedSlice S2x8192x1024 ![0, 0, 1024] (shapeCast S2x8192x6144 (arg0 m c) shapeCasts_S16384x6144_S2x8192x6144) slices_S2x8192x6144_S2x8192x1024_0_0_1024 := by
  simp only [entryContents, afterL_cons, afterL_nil]
  after_reads_simp
  rfl

/-- The parameters and a batch's padded rows. -/
def pars : Par where
  w j d := arg1 m c (ix3 0 j d)
  b d := arg2 m c (ix2 0 d)
  wa h k d := arg3 m c (ix4 0 h k d)
  ba d := arg4 m c (ix2 0 d)
  wi h k d := arg5 m c (ix4 0 h k d)
  bi d := arg6 m c (ix2 0 d)
  lam d := arg7 m c (ix2 0 d)

def seq (b : ℕ) (n : ℕ) (d : Fin 1024) : EReal :=
  if h : 3 ≤ n ∧ 8192 * b + (n - 3) < 16384 then arg0 m c (ix2 ⟨8192 * b + (n - 3), h.2⟩ ⟨d.val, by omega⟩) else 0

theorem cv_apply (a : Fin 2) (n : Fin 8192) (d : Fin 1024) : cv m c (ix3 a n d) = conv (pars m c) (seq m c a.val) n.val d :=
  convV_apply _ _ _ (pars m c) (seq m c a.val) a (fun _ _ => rfl) (fun _ => rfl) (fun n d => padV_apply _ a n d) n d

theorem lg_apply (a : Fin 2) (n : Fin 8192) (d : Fin 1024) : lg m c (ix3 a n d) = la (pars m c) (seq m c a.val) n.val d :=
  laV_apply _ _ _ _ (pars m c) (seq m c a.val) a n d (fun e => cv_apply m c a n e) (fun _ _ _ => rfl) (fun _ => rfl) (fun _ => rfl)

theorem A0_apply (r : Fin 8192) (b : Fin 2) (d : Fin 1024) : A0 m c (ix3 r b d) = da (pars m c) (seq m c b.val) r.val d := by
  unfold da
  refine (congrFun (entry0 m c) (ix3 r b d)).trans ?_
  pointwise [lg_apply]

theorem U0_apply (r : Fin 8192) (b : Fin 2) (d : Fin 1024) : U0 m c (ix3 r b d) = du (pars m c) (seq m c b.val) r.val d := by
  refine (congrFun (entry1 m c) (ix3 r b d)).trans ?_
  refine Eq.trans ?_ (uV_apply (cv m c) (lg m c) (arg5 m c) (arg6 m c) (pars m c) (seq m c b.val) b r d (fun e => cv_apply m c b r e) (lg_apply m c b r d) (fun _ _ _ => rfl) (fun _ => rfl))
  pointwise

/-- The recurrence depends only on the rows up to its own. -/
theorem scan_congr (a u a' u' : ℕ → EReal) (x : EReal) : ∀ n, (∀ k, k ≤ n → a k = a' k ∧ u k = u' k) → LruMath.scan a u x n = LruMath.scan a' u' x n
  | 0, h => by
    unfold LruMath.scan
    rw [(h 0 le_rfl).1, (h 0 le_rfl).2]
  | n + 1, h => by
    unfold LruMath.scan
    rw [(h _ le_rfl).1, (h _ le_rfl).2, scan_congr a u a' u' x n fun k hk => h k (by omega)]

/-- The loop's output holds the recurrence. -/
theorem hs_apply (r : Fin 8192) (b : Fin 2) (d : Fin 1024) :
    (after condOps (atK m 8192 c) (Proc.devRef .tc main_v85_4) : FVec Ideal S8192x2x1024 .f32) (ix3 r b d) = lru (pars m c) (seq m c b.val) 0 r.val d := by
  rw [cond_keeps (atK m 8192 c) main_v85_4 (by decide)]
  refine ((inv m c 8192 le_rfl).2.2.2 r b d r.isLt).trans ?_
  unfold lru
  refine scan_congr _ _ _ _ _ _ fun k hk => ?_
  have hr := r.isLt
  have e : k % 8192 = k := Nat.mod_eq_of_lt (by omega)
  constructor
  · exact (A0_apply m c _ b d).trans (congrArg (fun n => da (pars m c) (seq m c b.val) n d) e)
  · exact (U0_apply m c _ b d).trans (congrArg (fun n => du (pars m c) (seq m c b.val) n d) e)

/-- The result of the recurrence's output and the gate's rows. -/
def finV (h y : FVec Ideal S2x8192x1024 .f32) : FVec Ideal S16384x1024 .bf16 :=
  truncf .bf16 (shapeCast S16384x1024 (mulf h (mulf y (mulf (broadcastInDim S2x8192x1024 ![] bcast_S_S2x8192x1024 (constant S_ .f32 0x3F000000#32))
    (addf (broadcastInDim S2x8192x1024 ![] bcast_S_S2x8192x1024 (constant S_ .f32 0x3F800000#32))
      (Host.tanh (mulf (broadcastInDim S2x8192x1024 ![] bcast_S_S2x8192x1024 (constant S_ .f32 0x3F4C422A#32))
        (addf y (mulf (broadcastInDim S2x8192x1024 ![] bcast_S_S2x8192x1024 (constant S_ .f32 0x3D372713#32)) (mulf (mulf y y) y))))))))) shapeCasts_S2x8192x1024_S16384x1024) bitsLt_bf16_f32

set_option maxHeartbeats 2000000 in
theorem post_eq (X : Valuation τ sig (Elt Ideal)) : (after hostOps0_5 X (Proc.devRef .tc main_v102) : FVec Ideal S16384x1024 .bf16)
    = finV (transpose S2x8192x1024 [1, 0, 2] (X (Proc.devRef .tc main_v85_4)) transposes_S8192x2x1024_S2x8192x1024_1_0_2) (X (Proc.devRef .tc main_v2)) := by
  after_reads_simp
  rfl

set_option maxHeartbeats 2000000 in
theorem finV_apply (h y : FVec Ideal S2x8192x1024 .f32) (R : Fin 16384) (d : Fin 1024) :
    finV h y (ix2 R d) = h (ix3 ⟨R.val / 8192, by omega⟩ ⟨R.val % 8192, Nat.mod_lt _ (by decide)⟩ d) * gelu (y (ix3 ⟨R.val / 8192, by omega⟩ ⟨R.val % 8192, Nat.mod_lt _ (by decide)⟩ d)) := by
  unfold gelu
  pointwise [finV]
  generalize y (ix3 ⟨R.val / 8192, _⟩ ⟨R.val % 8192, _⟩ d) = z
  rw [← mul_assoc z, mul_comm z]

/-- The gate's rows. -/
theorem gate_apply (a : Fin 2) (n : Fin 8192) (d : Fin 1024) :
    (after condOps (atK m 8192 c) (Proc.devRef .tc main_v2) : FVec Ideal S2x8192x1024 .f32) (ix3 a n d)
      = arg0 m c (ix2 ⟨8192 * a.val + n.val, by omega⟩ ⟨1024 + d.val, by omega⟩) := by
  rw [keep_loop m c main_v2 (by decide) 8192]
  refine (congrFun (entryY m c) _).trans ?_
  pointwise
  exact congrArg (fun r => arg0 m c (ix2 r _)) (Fin.ext (by show a.val * 8192 + n.val = 8192 * a.val + n.val; omega))

theorem fin_apply (X : Valuation τ sig (Elt Ideal)) (R : Fin 16384) (d : Fin 1024) (h g : EReal)
    (hh : (X (Proc.devRef .tc main_v85_4) : FVec Ideal S8192x2x1024 .f32) (ix3 ⟨R.val % 8192, Nat.mod_lt _ (by decide)⟩ ⟨R.val / 8192, by omega⟩ d) = h)
    (hg : (X (Proc.devRef .tc main_v2) : FVec Ideal S2x8192x1024 .f32) (ix3 ⟨R.val / 8192, by omega⟩ ⟨R.val % 8192, Nat.mod_lt _ (by decide)⟩ d) = g) :
    (after hostOps0_5 X (Proc.devRef .tc main_v102) : FVec Ideal S16384x1024 .bf16) (ix2 R d) = h * gelu g := by
  rw [post_eq X, finV_apply _ _ R d, hg, ← hh]
  refine congrArg (fun x : EReal => x * gelu g) ?_
  pointwise

/-- The reference's result. -/
theorem result (R : Fin 16384) (d : Fin 1024) :
    (finalContents condOps preI bodyI postI 8192 m c (Proc.devRef .tc main_v102) : FVec Ideal S16384x1024 .bf16) (ix2 R d)
      = lru (pars m c) (seq m c (R.val / 8192)) 0 (R.val % 8192) d * gelu (arg0 m c (ix2 R ⟨1024 + d.val, by omega⟩)) :=
  fin_apply (after condOps (atK m 8192 c)) R d _ _ (hs_apply m c ⟨R.val % 8192, Nat.mod_lt _ (by decide)⟩ ⟨R.val / 8192, by omega⟩ d)
    ((gate_apply m c ⟨R.val / 8192, by omega⟩ ⟨R.val % 8192, Nat.mod_lt _ (by decide)⟩ d).trans
      (congrArg (fun r => arg0 m c (ix2 r ⟨1024 + d.val, by omega⟩)) (Fin.ext (Nat.div_add_mod R.val 8192))))

end Cert.LruRun

end
-- ==== Proof.LruTie.lean ====
/- The recurrence and its reference, side by side on memories that agree on the arguments. -/
module

public import proofs.«01_k».proof.Proof.LruFold
public import proofs.«01_k».proof.Proof.LruRun

@[expose] public section

set_option maxRecDepth 16384

noncomputable section

namespace Cert.LruTie

open Idealize.ShloMosaic Idealize.ShloMosaic.TcCoe Idealize.SL.Sem

section
open Idealize.ShloMosaic.StableHlo Cert.Reference6Ideal Cert.Reference6Ideal.Gen Cert.Reference6Ideal.Value

/-- The reference's run: its result, and its arguments unchanged. -/
theorem run (m : (ℓ : Loc nD τ sig) → Buf (Elt Ideal) ℓ) (ρ : Dev nD → PrngReg) :
    θ_run defs (onTc (τ := τ) main) ⟨m, fun _ => 0, ρ⟩ (fun r => ∀ c : Dev nD,
      r.2.mem ((c.tc : Thread nD τ).loc main_v102) = finalContents condOps preI bodyI postI 8192 m c (Proc.devRef .tc main_v102)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)) :=
  (θ_run defs _ _).mono (fun r h c => ⟨h c main_v102 (by decide),
      (h c main_arg0 (by decide)).trans (LruLoop.keep m c main_arg0 (by decide)),
      (h c main_arg1 (by decide)).trans (LruLoop.keep m c main_arg1 (by decide)),
      (h c main_arg2 (by decide)).trans (LruLoop.keep m c main_arg2 (by decide)),
      (h c main_arg3 (by decide)).trans (LruLoop.keep m c main_arg3 (by decide)),
      (h c main_arg4 (by decide)).trans (LruLoop.keep m c main_arg4 (by decide)),
      (h c main_arg5 (by decide)).trans (LruLoop.keep m c main_arg5 (by decide)),
      (h c main_arg6 (by decide)).trans (LruLoop.keep m c main_arg6 (by decide)),
      (h c main_arg7 (by decide)).trans (LruLoop.keep m c main_arg7 (by decide))⟩)
    (run_fold (F := Ideal) m ρ)

end

/-- The reference's array is the kernel's. -/
theorem tie (m : (ℓ : Loc Cert.Kernel6Ideal.nD Cert.Kernel6Ideal.τ Cert.Kernel6Ideal.sig) → Buf (Elt Ideal) ℓ)
    (m' : (ℓ : Loc Cert.Reference6Ideal.nD Cert.Reference6Ideal.τ Cert.Reference6Ideal.sig) → Buf (Elt Ideal) ℓ) (c : Dev Cert.Kernel6Ideal.nD)
    (h : m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) :
    (StableHlo.finalContents Cert.Reference6Ideal.Value.condOps Cert.Reference6Ideal.Value.preI Cert.Reference6Ideal.Value.bodyI Cert.Reference6Ideal.Value.postI 8192 m' c
      (Proc.devRef .tc Cert.Reference6Ideal.main_v102) : Vec Ideal Cert.Reference6Ideal.S16384x1024 .bf16) = Cert.Kernel6Ideal.Value.G9 m c := by
  obtain ⟨e0, e1, e2, e3, e4, e5, e6, e7⟩ := h
  have h0 : ∀ R C, Cert.LruRun.arg0 m' c (ix2 R C) = Cert.LruBlocks.proj m c R C := fun R C => by unfold Cert.LruRun.arg0 Cert.LruBlocks.proj; rw [e0]
  have hp : Cert.LruRun.pars m' c = Cert.LruBlocks.pars m c := by
    unfold Cert.LruRun.pars Cert.LruBlocks.pars Cert.LruRun.arg1 Cert.LruRun.arg2 Cert.LruRun.arg3 Cert.LruRun.arg4 Cert.LruRun.arg5 Cert.LruRun.arg6 Cert.LruRun.arg7
    rw [e1, e2, e3, e4, e5, e6, e7]
  have hs : ∀ b, Cert.LruRun.seq m' c b = Cert.LruFold.seq m c b := fun b => by
    funext n d
    unfold Cert.LruRun.seq Cert.LruFold.seq
    simp only [h0]
    rfl
  funext i
  idx_vars i
  refine (Cert.LruRun.result m' c _ _).trans (Eq.trans ?_ (Cert.LruFold.result m c _ _).symm)
  unfold Cert.LruFold.H
  rw [hp, hs, h0]
  rfl

end Cert.LruTie

end
-- ==== Proof.MlpMath.lean ====
/- The row formulas of a squared-ReLU MLP with RMSNorm over the extended reals, and the one regrouping the kernel does:
   the hidden axis of 8192 summed 512 at a time. -/
module

public import Idealize.ShloMosaic.PureOps.Ideal
public import Idealize.ShloMosaic.Lib.Pointwise

@[expose] public section

noncomputable section

namespace Cert.MlpMath

open Idealize.ShloMosaic

/-- One row of RMSNorm: `x · rsqrt(mean(x²) + ε) · g`. -/
def rms (x g : Fin 2048 → EReal) (d : Fin 2048) : EReal :=
  x d * Ideal.rsqrt (Ideal.div (∑ k, x k * x k) (Ideal.ofBits .f32 1157627904#32) + Ideal.ofBits .f32 897988541#32) * g d

/-- One hidden unit: the square of `max(x · w, 0)`. -/
def hid (x w : Fin 2048 → EReal) : EReal := max (∑ k, x k * w k) 0 * max (∑ k, x k * w k) 0

/-- What a block of 512 hidden units adds to output column `d`. -/
def blk (x : Fin 2048 → EReal) (w1 : Fin 2048 → Fin 512 → EReal) (w2 : Fin 512 → Fin 2048 → EReal) (d : Fin 2048) : EReal :=
  ∑ f, hid x (fun k => w1 k f) * w2 f d

/-- What all 8192 hidden units add to output column `d`. -/
def mlp (x : Fin 2048 → EReal) (w1 : Fin 2048 → Fin 8192 → EReal) (w2 : Fin 8192 → Fin 2048 → EReal) (d : Fin 2048) : EReal :=
  ∑ f, hid x (fun k => w1 k f) * w2 f d

/-- Column block `k` (of 512) of the first weight; out of range, block zero (never read). -/
def cols (w1 : Fin 2048 → Fin 8192 → EReal) (k : ℕ) : Fin 2048 → Fin 512 → EReal :=
  fun a f => if h : k < 16 then w1 a ⟨512 * k + f.val, by have := f.isLt; omega⟩ else 0

/-- Row block `k` (of 512) of the second weight. -/
def rows (w2 : Fin 8192 → Fin 2048 → EReal) (k : ℕ) : Fin 512 → Fin 2048 → EReal :=
  fun f d => if h : k < 16 then w2 ⟨512 * k + f.val, by have := f.isLt; omega⟩ d else 0

/-- The contribution of hidden block `k`. -/
def contrib (x : Fin 2048 → EReal) (w1 : Fin 2048 → Fin 8192 → EReal) (w2 : Fin 8192 → Fin 2048 → EReal) (k : ℕ) (d : Fin 2048) : EReal :=
  blk x (cols w1 k) (rows w2 k) d

/-- The residual stream after the first `n` hidden blocks. -/
def part (x0 x : Fin 2048 → EReal) (w1 : Fin 2048 → Fin 8192 → EReal) (w2 : Fin 8192 → Fin 2048 → EReal) : ℕ → Fin 2048 → EReal
  | 0 => x0
  | n + 1 => fun d => part x0 x w1 w2 n d + contrib x w1 w2 n d

theorem part_eq_sum (x0 x : Fin 2048 → EReal) (w1 : Fin 2048 → Fin 8192 → EReal) (w2 : Fin 8192 → Fin 2048 → EReal) (n : ℕ)
    (d : Fin 2048) : part x0 x w1 w2 n d = x0 d + ∑ k ∈ Finset.range n, contrib x w1 w2 k d := by
  induction n with
  | zero => simp [part]
  | succ n ih => rw [Finset.sum_range_succ, ← add_assoc, ← ih]; rfl

/-- A sum over 8192 taken 512 at a time. -/
theorem sum_blocks (f : Fin 8192 → EReal) :
    ∑ i, f i = ∑ k : Fin 16, ∑ j : Fin 512, f ⟨512 * k.val + j.val, by have := k.isLt; have := j.isLt; omega⟩ := by
  rw [← Fintype.sum_prod_type' (fun (k : Fin 16) (j : Fin 512) => f ⟨512 * k.val + j.val, by have := k.isLt; have := j.isLt; omega⟩)]
  refine (Fintype.sum_equiv (finProdFinEquiv (m := 16) (n := 512)) _ _ fun p => ?_).symm
  congr 1
  apply Fin.ext
  simp [finProdFinEquiv]
  omega

/-- All sixteen blocks make the whole MLP. -/
theorem part_all (x0 x : Fin 2048 → EReal) (w1 : Fin 2048 → Fin 8192 → EReal) (w2 : Fin 8192 → Fin 2048 → EReal) (d : Fin 2048) :
    part x0 x w1 w2 16 d = x0 d + mlp x w1 w2 d := by
  rw [part_eq_sum, mlp, sum_blocks, Finset.sum_range]
  refine congrArg (x0 d + ·) (Finset.sum_congr rfl fun k _ => ?_)
  unfold contrib blk cols rows
  refine Finset.sum_congr rfl fun f _ => ?_
  simp only [k.isLt, dif_pos]

end Cert.MlpMath

end
-- ==== Proof.NormMat.lean ====
/- The normed projection: the call's array and the reference's, at a row and a column, are the RMS-normed row times the
   weight's column. The first point of a row tile normalises the rows and keeps them for the five points that follow. -/
module

public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import proofs.«01_k».proof.Proof.MlpMath

@[expose] public section

set_option maxRecDepth 16384

noncomputable section

namespace Cert.NormMat

open Cert.MlpMath Idealize.ShloMosaic Idealize.ShloMosaic.TcCoe

section kernel
open Cert.Kernel5Ideal Cert.Kernel5Ideal.Gen

/-- The first point's block is the product of its normalised rows. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole) (hc0 : cond0_0 i) (hc1 : ¬cond0_1 i)
    (x0 : Vec Ideal S1024x2048 .f32) (x1 : Vec Ideal S1x2048 .f32) (x2 : Vec Ideal S2048x1024 .bf16) (r : Fin 1024) (d : Fin 1024) :
    out0_A_3 c i arg2 harg2 arg3 harg3 arg4 harg4 arg5 harg5 arg6 harg6 hc0 hc1 x0 x1 x2 (ix2 r d)
      = ∑ k, rms (fun k => x0 (ix2 r k)) (fun k => x1 (ix2 0 k)) k * x2 (ix2 k d) := by
  frame_out
  canon_tiles x h
  all_goals
    open_payloads
    unfold_payloads
    idx_vars x
    pointwise
    obtain ⟨r, hr⟩ := r
    obtain ⟨d, hd⟩ := d
    dsimp only at h0 h1
    subst h0 h1
    rfl

/-- The first point keeps the normalised rows. -/
theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole) (hc0 : cond0_0 i) (hc1 : ¬cond0_1 i)
    (x0 : Vec Ideal S1024x2048 .f32) (x1 : Vec Ideal S1x2048 .f32) (x2 : Vec Ideal S2048x1024 .bf16) (r : Fin 1024) (d : Fin 2048) :
    sout0_A_0 c i arg2 harg2 arg3 harg3 arg4 harg4 arg5 harg5 arg6 harg6 hc0 hc1 x0 x1 x2 (ix2 r d)
      = rms (fun k => x0 (ix2 r k)) (fun k => x1 (ix2 0 k)) d := by
  frame_out
  canon_tiles x h
  all_goals
    open_payloads
    unfold_payloads
    idx_vars x
    pointwise
    obtain ⟨r, hr⟩ := r
    obtain ⟨d, hd⟩ := d
    dsimp only at h0 h1
    subst h0 h1
    rfl

/-- A later point's block is the product of the kept rows. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1024 .f32) (harg5 : arg5.IsWhole) (arg6 : Memref sig .tc .vmem S1024x2048 .bf16) (harg6 : arg6.IsWhole) (hc0 : ¬cond0_0 i) (hc1 : cond0_1 i)
    (x0 : Vec Ideal S1024x2048 .f32) (x1 : Vec Ideal S1x2048 .f32) (x2 : Vec Ideal S2048x1024 .bf16) (xs0 : Vec Ideal S1024x2048 .bf16) (r : Fin 1024) (d : Fin 1024) :
    out0_B_3 c i arg2 harg2 arg3 harg3 arg4 harg4 arg5 harg5 arg6 harg6 hc0 hc1 x0 x1 x2 xs0 (ix2 r d) = ∑ k : Fin 2048, xs0 (ix2 r k) * x2 (ix2 k d) := by
  frame_out
  unfold_payloads
  pointwise

variable (m : (ℓ : Loc nD τ sig) → Buf (Elt Ideal) ℓ) (c : Dev nD)

/-- Row `R` of the residual stream, normalised with the layer's gain. -/
def xn (h : Vec Ideal S2x8192x2048 .f32) (g : Vec Ideal S2x2048 .f32) (R : Fin 16384) : Fin 2048 → EReal :=
  rms (fun k => h (ix3 ⟨R.val / 8192, by have := R.isLt; omega⟩ ⟨R.val % 8192, Nat.mod_lt _ (by decide)⟩ k)) (fun k => g (ix2 0 k))

/-- Entry `(R, C)` of the normalised rows times the weight. -/
def proj (h : Vec Ideal S2x8192x2048 .f32) (g : Vec Ideal S2x2048 .f32) (w : Vec Ideal S1x2048x6144 .f32) (R : Fin 16384) (C : Fin 6144) : EReal :=
  ∑ k, xn h g R k * w (ix3 0 k C)

/-- The index maps over the grid. -/
theorem idx : ∀ t : Fin cfg0.N, win0_0.index t = ![t.val / 6, 0] ∧ win0_1.index t = ![0, 0] ∧ win0_2.index t = ![0, t.val % 6] :=
  (by decide +kernel : ∀ t : Fin grid0.N, _)

/-- Row `r` of the tile that point `t` works on, and column `d` of its column block. -/
def row (t : Fin cfg0.N) (r : Fin 1024) : Fin 16384 :=
  ⟨1024 * (t.val / 6) + r.val, by have := r.isLt; have := lt_of_lt_of_eq t.isLt (show cfg0.N = 96 from N_0); omega⟩
def col (t : Fin cfg0.N) (d : Fin 1024) : Fin 6144 :=
  ⟨1024 * (t.val % 6) + d.val, by have := d.isLt; omega⟩

theorem read0 (t : Fin cfg0.N) (r : Fin 1024) (d : Fin 2048) : (iblk m c 0 t : Vec Ideal S1024x2048 .f32) (ix2 r d)
    = (m ((c : Thread nD τ).loc main_arg0) : Vec Ideal S2x8192x2048 .f32) (ix3 ⟨(row t r).val / 8192, by have := (row t r).isLt; omega⟩ ⟨(row t r).val % 8192, Nat.mod_lt _ (by decide)⟩ d) := by
  have hi := idx t
  unfold row
  blk_ext! [iblk, hi.1]

theorem read1 (t : Fin cfg0.N) (d : Fin 2048) : (iblk m c 1 t : Vec Ideal S1x2048 .f32) (ix2 0 d)
    = (m ((c : Thread nD τ).loc main_arg1) : Vec Ideal S2x2048 .f32) (ix2 0 d) := by
  have hi := idx t
  blk_ext! [iblk, hi.2.1]

theorem read2 (t : Fin cfg0.N) (k : Fin 2048) (f : Fin 1024) : (iblk m c 2 t : Vec Ideal S2048x1024 .bf16) (ix2 k f)
    = (m ((c : Thread nD τ).loc main_arg2) : Vec Ideal S1x2048x6144 .f32) (ix3 0 k (col t f)) := by
  have hi := idx t
  unfold col
  blk_ext! [iblk, hi.2.2]

/-- A point's normalised rows. -/
theorem rows_eq (t : Fin cfg0.N) (r : Fin 1024) :
    rms (fun k => (iblk m c 0 t : Vec Ideal S1024x2048 .f32) (ix2 r k)) (fun k => (iblk m c 1 t : Vec Ideal S1x2048 .f32) (ix2 0 k))
      = xn (m ((c : Thread nD τ).loc main_arg0)) (m ((c : Thread nD τ).loc main_arg1)) (row t r) := by
  unfold xn
  simp only [read0, read1]

/-- What a point leaves: the tile's normalised rows, and its columns of the product. -/
def Holds (n : ℕ) (h : n < cfg0.N) : Prop :=
  (∀ (r : Fin 1024) (k : Fin 2048), (outsAt0 m c n h).2 (ix2 r k)
      = xn (m ((c : Thread nD τ).loc main_arg0)) (m ((c : Thread nD τ).loc main_arg1)) (row ⟨n, h⟩ r) k)
  ∧ ∀ r d : Fin 1024, (outsAt0 m c n h).1 (ix2 r d)
      = proj (m ((c : Thread nD τ).loc main_arg0)) (m ((c : Thread nD τ).loc main_arg1)) (m ((c : Thread nD τ).loc main_arg2)) (row ⟨n, h⟩ r) (col ⟨n, h⟩ d)

theorem first (t : Fin cfg0.N) (h0 : t.val % 6 = 0) : Holds m c t.val t.isLt := by
  unfold Holds
  rw [outsAt0_A m c t h0 (by omega)]
  dsimp only
  refine ⟨fun r k => ?_, fun r d => ?_⟩
  · refine (sout_A _ _ _ _ _ _ _ _ _ _ _ _ _ _ _ _ _ r k).trans ?_
    rw [rows_eq]
  · refine (out_A _ _ _ _ _ _ _ _ _ _ _ _ _ _ _ _ _ r d).trans ?_
    rw [rows_eq]
    unfold proj
    simp only [read2]

theorem later (n : ℕ) (h : n + 1 < cfg0.N) (h0 : ¬(n + 1) % 6 = 0) (hk : Holds m c n (Nat.lt_of_succ_lt h)) : Holds m c (n + 1) h := by
  have e : ∀ r, row ⟨n + 1, h⟩ r = row ⟨n, Nat.lt_of_succ_lt h⟩ r := fun r =>
    Fin.ext (by show 1024 * ((n + 1) / 6) + _ = 1024 * (n / 6) + _; omega)
  unfold Holds
  rw [outsAt0_B m c ⟨n + 1, h⟩ h0 (by dsimp only; omega)]
  dsimp only
  refine ⟨fun r k => ?_, fun r d => ?_⟩
  · rw [e]
    exact hk.1 r k
  · refine (out_B _ _ _ _ _ _ _ _ _ _ _ _ _ _ _ _ _ _ r d).trans ?_
    unfold proj
    refine Finset.sum_congr rfl fun k _ => ?_
    rw [read2, e]
    exact congrArg (· * _) (hk.1 r k)

theorem holds : ∀ (n : ℕ) (h : n < cfg0.N), Holds m c n h := by
  intro n
  induction n with
  | zero => intro h; exact first m c ⟨0, h⟩ rfl
  | succ n ih =>
    intro h
    by_cases h0 : (n + 1) % 6 = 0
    · exact first m c ⟨n + 1, h⟩ h0
    · exact later m c n h h0 (ih (Nat.lt_of_succ_lt h))

/-- The array after the run, at row `R` and column `C`. -/
theorem result (R : Fin 16384) (C : Fin 6144) : (Value.G3 m c : Vec Ideal S16384x6144 .f32) (ix2 R C)
    = proj (m ((c : Thread nD τ).loc main_arg0)) (m ((c : Thread nD τ).loc main_arg1)) (m ((c : Thread nD τ).loc main_arg2)) R C := by
  have hN : cfg0.N = 96 := N_0
  have hR := R.isLt
  have hC := C.isLt
  have hp : Value.pt3Of (ix2 R C) = 6 * (R.val / 1024) + C.val / 1024 := by
    show 6 * (R.val / 1024 - 0) + 1 * (C.val / 1024 - 0) = _
    omega
  have hb : 6 * (R.val / 1024) + C.val / 1024 < cfg0.N := by omega
  unfold Value.G3
  rw [dif_pos (by rw [hp]; exact hb), ← Value.outsAt0_sweep m c _ (by rw [hp]; exact hb)]
  have key : ∀ (p : ℕ) (hp : p < cfg0.N), p = 6 * (R.val / 1024) + C.val / 1024 → ∀ (i : S1024x1024.Idx),
      i = ix2 ⟨R.val % 1024, Nat.mod_lt _ (by decide)⟩ ⟨C.val % 1024, Nat.mod_lt _ (by decide)⟩ →
      (outsAt0 m c p hp).1 i = proj (m ((c : Thread nD τ).loc main_arg0)) (m ((c : Thread nD τ).loc main_arg1)) (m ((c : Thread nD τ).loc main_arg2)) R C := by
    rintro p hp rfl i rfl
    rw [(holds m c _ hp).2]
    have hrow : row ⟨6 * (R.val / 1024) + C.val / 1024, hp⟩ ⟨R.val % 1024, Nat.mod_lt _ (by decide)⟩ = R :=
      Fin.ext (by show 1024 * ((6 * (R.val / 1024) + C.val / 1024) / 6) + R.val % 1024 = R.val; omega)
    have hcol : col ⟨6 * (R.val / 1024) + C.val / 1024, hp⟩ ⟨C.val % 1024, Nat.mod_lt _ (by decide)⟩ = C :=
      Fin.ext (by show 1024 * ((6 * (R.val / 1024) + C.val / 1024) % 6) + C.val % 1024 = C.val; omega)
    rw [hrow, hcol]
  exact key _ _ hp _ (eq_ix2 _)

end kernel

section reference
open Cert.Reference5Ideal Cert.Reference5Ideal.Gen

/-- The reference's operations at row `R` and column `C`. -/
theorem ref (h : FVec Ideal S2x8192x2048 .f32) (g : FVec Ideal S2x2048 .f32) (w : FVec Ideal S1x2048x6144 .f32) (R : Fin 16384) (C : Fin 6144) :
    shapeCast S16384x6144 (Host.dotGeneral dot_S2x8192x2048_S2048x6144_S2x8192x6144_2_0_01_1_n_n none (mulf (mulf h (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf h h) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast S2048 (extractStridedSlice S1x2048 ![0, 0] g slices_S2x2048_S1x2048_0_0) shapeCasts_S1x2048_S2048)))) (shapeCast S2048x6144 w shapeCasts_S1x2048x6144_S2048x6144)) shapeCasts_S2x8192x6144_S16384x6144 (ix2 R C)
      = proj h g w R C := by
  pointwise
  rfl

end reference

end Cert.NormMat

end
-- ==== Proof.MlpCases.lean ====
/- What one grid point of the MLP call leaves, read at a row and a column: the three cases of the body
   (first, middle and last step over the hidden axis) as plain row formulas over the extended reals. -/
module

public import proofs.«01_k».proof.Proof.Gen.KernelIdeal.Frame
public import Idealize.ShloMosaic.Lib.Pipeline.ValueKit
public import Idealize.ShloMosaic.Lib.Pointwise
public import proofs.«01_k».proof.Proof.MlpMath

@[expose] public section

set_option maxRecDepth 16384

noncomputable section

namespace Cert.MlpCases

open Cert.MlpMath Cert.KernelIdeal Cert.KernelIdeal.Gen Idealize.ShloMosaic Idealize.ShloMosaic.TcCoe

/-- A middle point adds its hidden block to what the output buffer holds. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : cond0_1 i) (hc2 : ¬cond0_2 i)
    (x0 : Vec Ideal S1024x2048 .f32) (x1 : Vec Ideal S1x2048 .f32) (x2 : Vec Ideal S1x2048x512 .bf16) (x3 : Vec Ideal S1x512x2048 .bf16) (x4 : Vec Ideal S1x2048 .f32) (xo5 : Vec Ideal S1024x2048 .f32) (xs0 : Vec Ideal S1024x2048 .bf16) (r : Fin 1024) (d : Fin 2048) :
    out0_B_5 c i arg2 harg2 arg3 harg3 arg4 harg4 arg5 harg5 arg6 harg6 arg7 harg7 arg8 harg8 hc0 hc1 hc2 x0 x1 x2 x3 x4 xo5 xs0 (ix2 r d)
      = xo5 (ix2 r d) + blk (fun k => xs0 (ix2 r k)) (fun k f => x2 (ix3 0 k f)) (fun f d => x3 (ix3 0 f d)) d := by
  frame_out
  unfold_payloads
  pointwise
  rfl

/-- The last point adds its hidden block and then normalises each row with the final gain. -/
theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole) (hc0 : ¬cond0_0 i) (hc1 : ¬cond0_1 i) (hc2 : cond0_2 i)
    (x0 : Vec Ideal S1024x2048 .f32) (x1 : Vec Ideal S1x2048 .f32) (x2 : Vec Ideal S1x2048x512 .bf16) (x3 : Vec Ideal S1x512x2048 .bf16) (x4 : Vec Ideal S1x2048 .f32) (xo5 : Vec Ideal S1024x2048 .f32) (xs0 : Vec Ideal S1024x2048 .bf16) (r : Fin 1024) (d : Fin 2048) :
    out0_C_5 c i arg2 harg2 arg3 harg3 arg4 harg4 arg5 harg5 arg6 harg6 arg7 harg7 arg8 harg8 hc0 hc1 hc2 x0 x1 x2 x3 x4 xo5 xs0 (ix2 r d)
      = rms (fun k => xo5 (ix2 r k) + blk (fun k => xs0 (ix2 r k)) (fun k f => x2 (ix3 0 k f)) (fun f d => x3 (ix3 0 f d)) k) (fun k => x4 (ix2 0 k)) d := by
  frame_out
  canon_tiles x h
  all_goals
    open_payloads
    unfold_payloads
    idx_vars x
    pointwise
    obtain ⟨r, hr⟩ := r
    obtain ⟨d, hd⟩ := d
    dsimp only at h0 h1
    subst h0 h1
    rfl

/-- The first point leaves the input plus the first hidden block of the normalised rows. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i) (hc2 : ¬cond0_2 i)
    (x0 : Vec Ideal S1024x2048 .f32) (x1 : Vec Ideal S1x2048 .f32) (x2 : Vec Ideal S1x2048x512 .bf16) (x3 : Vec Ideal S1x512x2048 .bf16) (x4 : Vec Ideal S1x2048 .f32) (r : Fin 1024) (d : Fin 2048) :
    out0_A_5 c i arg2 harg2 arg3 harg3 arg4 harg4 arg5 harg5 arg6 harg6 arg7 harg7 arg8 harg8 hc0 hc1 hc2 x0 x1 x2 x3 x4 (ix2 r d)
      = x0 (ix2 r d) + blk (rms (fun k => x0 (ix2 r k)) (fun k => x1 (ix2 0 k))) (fun k f => x2 (ix3 0 k f)) (fun f d => x3 (ix3 0 f d)) d := by
  frame_out
  canon_tiles x h
  all_goals
    open_payloads
    unfold_payloads
    idx_vars x
    pointwise
    obtain ⟨r, hr⟩ := r
    obtain ⟨d, hd⟩ := d
    dsimp only at h0 h1
    subst h0 h1
    rfl

/-- The first point keeps the normalised rows for the points that follow. -/
theorem sout_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole) (hc0 : cond0_0 i) (hc1 : ¬cond0_1 i) (hc2 : ¬cond0_2 i)
    (x0 : Vec Ideal S1024x2048 .f32) (x1 : Vec Ideal S1x2048 .f32) (x2 : Vec Ideal S1x2048x512 .bf16) (x3 : Vec Ideal S1x512x2048 .bf16) (x4 : Vec Ideal S1x2048 .f32) (r : Fin 1024) (d : Fin 2048) :
    sout0_A_0 c i arg2 harg2 arg3 harg3 arg4 harg4 arg5 harg5 arg6 harg6 arg7 harg7 arg8 harg8 hc0 hc1 hc2 x0 x1 x2 x3 x4 (ix2 r d)
      = rms (fun k => x0 (ix2 r k)) (fun k => x1 (ix2 0 k)) d := by
  frame_out
  canon_tiles x h
  all_goals
    open_payloads
    unfold_payloads
    idx_vars x
    pointwise
    obtain ⟨r, hr⟩ := r
    obtain ⟨d, hd⟩ := d
    dsimp only at h0 h1
    subst h0 h1
    rfl

end Cert.MlpCases

end
-- ==== Proof.MlpBlocks.lean ====
/- The blocks the MLP call reads at a grid point, as reads of the arguments: row tile `t / 16` of the residual stream,
   hidden block `t % 16` of the two weights of the last layer, and the two gains. -/
module

public import proofs.«01_k».proof.Proof.Gen.KernelIdeal.Frame
public import Idealize.ShloMosaic.Lib.Pipeline.ValueKit
public import Idealize.ShloMosaic.Lib.Pointwise
public import proofs.«01_k».proof.Proof.MlpMath

@[expose] public section

set_option maxRecDepth 16384

noncomputable section

namespace Cert.MlpBlocks

open Cert.MlpMath Cert.KernelIdeal Cert.KernelIdeal.Gen Idealize.ShloMosaic Idealize.ShloMosaic.TcCoe

variable (m : (ℓ : Loc nD τ sig) → Buf (Elt Ideal) ℓ) (c : Dev nD)

/-- Row `R` of the residual stream, the two leading axes taken as one. -/
def X (R : Fin 16384) (d : Fin 2048) : EReal :=
  (m ((c : Thread nD τ).loc main_arg0) : Vec Ideal S2x8192x2048 .f32) (ix3 ⟨R.val / 8192, by have := R.isLt; omega⟩ ⟨R.val % 8192, Nat.mod_lt _ (by decide)⟩ d)
/-- The last layer's MLP gain. -/
def gain (d : Fin 2048) : EReal := (m ((c : Thread nD τ).loc main_arg1) : Vec Ideal S2x2048 .f32) (ix2 1 d)
/-- The final gain. -/
def fin (d : Fin 2048) : EReal := (m ((c : Thread nD τ).loc main_arg2) : Vec Ideal S2048 .f32) (ix1 d)
/-- The last layer's first weight. -/
def W1 (k : Fin 2048) (f : Fin 8192) : EReal := (m ((c : Thread nD τ).loc main_arg3) : Vec Ideal S2x2048x8192 .f32) (ix3 1 k f)
/-- The last layer's second weight. -/
def W2 (f : Fin 8192) (d : Fin 2048) : EReal := (m ((c : Thread nD τ).loc main_arg4) : Vec Ideal S2x8192x2048 .f32) (ix3 1 f d)

/-- The six index maps over the grid. -/
theorem idx : ∀ t : Fin cfg0.N, win0_0.index t = ![t.val / 16, 0] ∧ win0_1.index t = ![0, 0] ∧ win0_2.index t = ![1, 0, t.val % 16]
    ∧ win0_3.index t = ![1, t.val % 16, 0] ∧ win0_4.index t = ![0, 0] :=
  (by decide +kernel : ∀ t : Fin grid0.N, _)

/-- Row `r` of the tile that point `t` works on. -/
def row (t : Fin cfg0.N) (r : Fin 1024) : Fin 16384 :=
  ⟨1024 * (t.val / 16) + r.val, by have := r.isLt; have := lt_of_lt_of_eq t.isLt (show cfg0.N = 256 from N_0); omega⟩

theorem read0 (t : Fin cfg0.N) (r : Fin 1024) (d : Fin 2048) : (iblk m c 0 t : Vec Ideal S1024x2048 .f32) (ix2 r d) = X m c (row t r) d := by
  have hi := idx t
  unfold X row
  blk_ext! [iblk, hi.1]

theorem read1 (t : Fin cfg0.N) (d : Fin 2048) : (iblk m c 1 t : Vec Ideal S1x2048 .f32) (ix2 0 d) = gain m c d := by
  have hi := idx t
  unfold gain
  blk_ext! [iblk, hi.2.1]

theorem read2 (t : Fin cfg0.N) (k : Fin 2048) (f : Fin 512) : (iblk m c 2 t : Vec Ideal S1x2048x512 .bf16) (ix3 0 k f) = cols (W1 m c) (t.val % 16) k f := by
  have hi := idx t
  unfold cols W1
  rw [dif_pos (Nat.mod_lt _ (by decide))]
  blk_ext! [iblk, hi.2.2.1]

theorem read3 (t : Fin cfg0.N) (f : Fin 512) (d : Fin 2048) : (iblk m c 3 t : Vec Ideal S1x512x2048 .bf16) (ix3 0 f d) = rows (W2 m c) (t.val % 16) f d := by
  have hi := idx t
  unfold rows W2
  rw [dif_pos (Nat.mod_lt _ (by decide))]
  blk_ext! [iblk, hi.2.2.2.1]

theorem read4 (t : Fin cfg0.N) (d : Fin 2048) : (iblk m c 4 t : Vec Ideal S1x2048 .f32) (ix2 0 d) = fin m c d := by
  have hi := idx t
  unfold fin
  blk_ext! [iblk, hi.2.2.2.2]

end Cert.MlpBlocks

end
-- ==== Proof.MlpFold.lean ====
/- The MLP call's accumulation: after step `j` of a row tile the output buffer holds the residual plus the first `j + 1`
   hidden blocks, and after the last step the rows normalised with the final gain. -/
module

public import proofs.«01_k».proof.Proof.Gen.KernelIdeal.Value
public import proofs.«01_k».proof.Proof.MlpCases
public import proofs.«01_k».proof.Proof.MlpBlocks

@[expose] public section

set_option maxRecDepth 16384

noncomputable section

namespace Cert.MlpFold

open Cert.MlpMath Cert.MlpBlocks Cert.MlpCases Cert.KernelIdeal Cert.KernelIdeal.Gen Idealize.ShloMosaic Idealize.ShloMosaic.TcCoe

variable (m : (ℓ : Loc nD τ sig) → Buf (Elt Ideal) ℓ) (c : Dev nD)

/-- The normalised row. -/
def xn (R : Fin 16384) : Fin 2048 → EReal := rms (X m c R) (gain m c)

/-- The residual row plus the first `n` hidden blocks. -/
def acc (R : Fin 16384) (n : ℕ) : Fin 2048 → EReal := part (X m c R) (xn m c R) (W1 m c) (W2 m c) n

/-- The blocks' reads, as functions of their row or column. -/
theorem fun0 (t : Fin cfg0.N) (r : Fin 1024) : (fun d => (iblk m c 0 t : Vec Ideal S1024x2048 .f32) (ix2 r d)) = X m c (row t r) := funext (read0 m c t r)
theorem fun1 (t : Fin cfg0.N) : (fun d => (iblk m c 1 t : Vec Ideal S1x2048 .f32) (ix2 0 d)) = gain m c := funext (read1 m c t)
theorem fun2 (t : Fin cfg0.N) : (fun k f => (iblk m c 2 t : Vec Ideal S1x2048x512 .bf16) (ix3 0 k f)) = cols (W1 m c) (t.val % 16) := funext fun k => funext (read2 m c t k)
theorem fun3 (t : Fin cfg0.N) : (fun f d => (iblk m c 3 t : Vec Ideal S1x512x2048 .bf16) (ix3 0 f d)) = rows (W2 m c) (t.val % 16) := funext fun f => funext (read3 m c t f)
theorem fun4 (t : Fin cfg0.N) : (fun d => (iblk m c 4 t : Vec Ideal S1x2048 .f32) (ix2 0 d)) = fin m c := funext (read4 m c t)

/-- A row of the tile is the same row at every step of the tile. -/
theorem row_succ (n : ℕ) (h : n + 1 < cfg0.N) (hm : ¬(n + 1) % 16 = 0) (r : Fin 1024) :
    row ⟨n + 1, h⟩ r = row ⟨n, Nat.lt_of_succ_lt h⟩ r := Fin.ext (by show 1024 * ((n + 1) / 16) + _ = 1024 * (n / 16) + _; omega)

/-- What the buffers hold after point `t`, before the tile's last step. -/
theorem outs_eq : ∀ (n : ℕ) (h : n < cfg0.N), n % 16 ≠ 15 → ∀ (r : Fin 1024) (d : Fin 2048),
    (outsAt0 m c n h).1 (ix2 r d) = acc m c (row ⟨n, h⟩ r) (n % 16 + 1) d
      ∧ (outsAt0 m c n h).2 (ix2 r d) = xn m c (row ⟨n, h⟩ r) d := by
  have first : ∀ (t : Fin cfg0.N), t.val % 16 = 0 → ∀ (r : Fin 1024) (d : Fin 2048),
      (outsAt0 m c t.val t.isLt).1 (ix2 r d) = acc m c (row t r) (t.val % 16 + 1) d
      ∧ (outsAt0 m c t.val t.isLt).2 (ix2 r d) = xn m c (row t r) d := by
    intro t h0 r d
    rw [outsAt0_A m c t h0 (by omega) (by omega)]
    dsimp only
    refine ⟨?_, ?_⟩
    · refine (out_A _ _ _ _ _ _ _ _ _ _ _ _ _ _ _ _ _ _ _ _ _ _ _ _ r d).trans ?_
      rw [fun0, fun1, fun2, fun3, read0, h0]
      rfl
    · refine (sout_A _ _ _ _ _ _ _ _ _ _ _ _ _ _ _ _ _ _ _ _ _ _ _ _ r d).trans ?_
      rw [fun0, fun1]
      rfl
  intro n
  induction n with
  | zero => intro h _ r d; exact first ⟨0, h⟩ rfl r d
  | succ n ih =>
    intro h hl r d
    by_cases h0 : (n + 1) % 16 = 0
    · exact first ⟨n + 1, h⟩ h0 r d
    · have ihn := ih (Nat.lt_of_succ_lt h) (by omega)
      have e1 : ∀ (r : Fin 1024) (d : Fin 2048), (outsAt0 m c n (Nat.lt_of_succ_lt h)).1 (ix2 r d) = acc m c (row ⟨n + 1, h⟩ r) (n % 16 + 1) d :=
        fun r d => by rw [row_succ n h h0]; exact (ihn r d).1
      have e2 : ∀ (r : Fin 1024), (fun d => (outsAt0 m c n (Nat.lt_of_succ_lt h)).2 (ix2 r d)) = xn m c (row ⟨n + 1, h⟩ r) :=
        fun r => funext fun d => by rw [row_succ n h h0]; exact (ihn r d).2
      rw [outsAt0_B m c ⟨n + 1, h⟩ h0 (by dsimp only; omega) (by dsimp only; omega)]
      dsimp only
      refine ⟨?_, congrFun (e2 r) d⟩
      refine (out_B _ _ _ _ _ _ _ _ _ _ _ _ _ _ _ _ _ _ _ _ _ _ _ _ _ _ r d).trans ?_
      rw [fun2, fun3]
      show (outsAt0 m c n (Nat.lt_of_succ_lt h)).1 (ix2 r d) + blk (fun k => (outsAt0 m c n (Nat.lt_of_succ_lt h)).2 (ix2 r k)) _ _ d = _
      rw [e1, e2, show (n + 1) % 16 = n % 16 + 1 by omega]
      rfl

/-- What the output buffer holds after a tile's last step. -/
theorem outs_last (n : ℕ) (h : n + 1 < cfg0.N) (hl : (n + 1) % 16 = 15) (r : Fin 1024) (d : Fin 2048) :
    (outsAt0 m c (n + 1) h).1 (ix2 r d) = rms (acc m c (row ⟨n + 1, h⟩ r) 16) (fin m c) d := by
  have h0 : ¬(n + 1) % 16 = 0 := by omega
  have ihn := outs_eq m c n (Nat.lt_of_succ_lt h) (by omega)
  have e1 : ∀ (r : Fin 1024) (d : Fin 2048), (outsAt0 m c n (Nat.lt_of_succ_lt h)).1 (ix2 r d) = acc m c (row ⟨n + 1, h⟩ r) 15 d :=
    fun r d => by rw [row_succ n h h0, (ihn r d).1, show n % 16 + 1 = 15 by omega]
  have e2 : ∀ (r : Fin 1024), (fun d => (outsAt0 m c n (Nat.lt_of_succ_lt h)).2 (ix2 r d)) = xn m c (row ⟨n + 1, h⟩ r) :=
    fun r => funext fun d => by rw [row_succ n h h0]; exact (ihn r d).2
  rw [outsAt0_C m c ⟨n + 1, h⟩ h0 (by dsimp only; omega) hl]
  dsimp only
  refine (out_C _ _ _ _ _ _ _ _ _ _ _ _ _ _ _ _ _ _ _ _ _ _ _ _ _ _ r d).trans ?_
  rw [fun2, fun3, fun4]
  show rms (fun k => (outsAt0 m c n (Nat.lt_of_succ_lt h)).1 (ix2 r k) + blk (fun k => (outsAt0 m c n (Nat.lt_of_succ_lt h)).2 (ix2 r k)) _ _ k) _ d = _
  simp only [e1, e2]
  rw [hl]
  rfl

/-- The array after the run, at row `R` and column `d`. -/
theorem result (R : Fin 16384) (d : Fin 2048) :
    (Value.G5 m c : Vec Ideal S16384x2048 .f32) (ix2 R d)
      = rms (fun k => X m c R k + mlp (xn m c R) (W1 m c) (W2 m c) k) (fin m c) d := by
  have hN : cfg0.N = 256 := N_0
  have hR := R.isLt
  have hp : Value.pt5Of (ix2 R d) = 16 * (R.val / 1024) + 14 + 1 := by
    show 16 * (1 * (R.val / 1024 - 0) + 1 * (d.val / 2048 - 0)) + 15 = _
    have := d.isLt; omega
  have hb : 16 * (R.val / 1024) + 14 + 1 < cfg0.N := by omega
  unfold Value.G5
  rw [dif_pos (by rw [hp]; exact hb), ← Value.outsAt0_sweep m c _ (by rw [hp]; exact hb)]
  have key : ∀ (p : ℕ) (hp : p < cfg0.N), p = 16 * (R.val / 1024) + 14 + 1 → ∀ (i : S1024x2048.Idx), i = ix2 ⟨R.val % 1024, Nat.mod_lt _ (by decide)⟩ d →
      (outsAt0 m c p hp).1 i = rms (fun k => X m c R k + mlp (xn m c R) (W1 m c) (W2 m c) k) (fin m c) d := by
    rintro p hp rfl i rfl
    rw [outs_last m c _ hp (by omega)]
    have hrow : row ⟨16 * (R.val / 1024) + 14 + 1, hp⟩ ⟨R.val % 1024, Nat.mod_lt _ (by decide)⟩ = R :=
      Fin.ext (by show 1024 * ((16 * (R.val / 1024) + 14 + 1) / 16) + R.val % 1024 = R.val; omega)
    rw [hrow]
    refine congrArg (fun f => rms f (fin m c) d) (funext fun k => ?_)
    exact part_all _ _ _ _ k
  refine key _ _ hp _ ?_
  have hd := d.isLt
  refine (eq_ix2 _).trans ?_
  congr 1
  apply Fin.ext
  show d.val % 2048 = d.val
  omega

end Cert.MlpFold

end
-- ==== Proof.MlpRef.lean ====
/- The MLP reference's result at a row and a column: the plain row formula. -/
module

public import proofs.«01_k».proof.Proof.Gen.ReferenceIdeal.Run
public import Idealize.ShloMosaic.Lib.Pointwise
public import proofs.«01_k».proof.Proof.MlpMath

@[expose] public section

set_option maxRecDepth 16384

noncomputable section

namespace Cert.MlpRef

open Cert.MlpMath Cert.ReferenceIdeal Cert.ReferenceIdeal.Gen Idealize.ShloMosaic Idealize.ShloMosaic.TcCoe

variable (m : (ℓ : Loc nD τ sig) → Buf (Elt Ideal) ℓ) (c : Dev nD)

/-- Row `R` of the residual stream. -/
def X (R : Fin 16384) (d : Fin 2048) : EReal :=
  (m ((c : Thread nD τ).loc main_arg0) : Vec Ideal S2x8192x2048 .f32) (ix3 ⟨R.val / 8192, by have := R.isLt; omega⟩ ⟨R.val % 8192, Nat.mod_lt _ (by decide)⟩ d)
/-- The last layer's MLP gain. -/
def gain (d : Fin 2048) : EReal := (m ((c : Thread nD τ).loc main_arg1) : Vec Ideal S2x2048 .f32) (ix2 1 d)
/-- The final gain. -/
def fin (d : Fin 2048) : EReal := (m ((c : Thread nD τ).loc main_arg2) : Vec Ideal S2048 .f32) (ix1 d)
/-- The last layer's first weight. -/
def W1 (k : Fin 2048) (f : Fin 8192) : EReal := (m ((c : Thread nD τ).loc main_arg3) : Vec Ideal S2x2048x8192 .f32) (ix3 1 k f)
/-- The last layer's second weight. -/
def W2 (f : Fin 8192) (d : Fin 2048) : EReal := (m ((c : Thread nD τ).loc main_arg4) : Vec Ideal S2x8192x2048 .f32) (ix3 1 f d)

/-- The reference's RMSNorm, as its operations. -/
def normV (x : FVec Ideal S2x8192x2048 .f32) (g : FVec Ideal S2048 .f32) : FVec Ideal S2x8192x2048 .f32 :=
  mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 g))

theorem normV_apply (x : FVec Ideal S2x8192x2048 .f32) (g : FVec Ideal S2048 .f32) (a : Fin 2) (b : Fin 8192) (d : Fin 2048) :
    normV x g (ix3 a b d) = rms (fun k => x (ix3 a b k)) (fun k => g (ix1 k)) d := by
  pointwise [normV]
  rfl

/-- The reference's hidden activation before the square, as its operations. -/
def actV (x : FVec Ideal S2x8192x2048 .f32) (w : FVec Ideal S2x2048x8192 .f32) : FVec Ideal S2x8192x8192 .f32 :=
  maximumf (Host.dotGeneral dot_S2x8192x2048_S2048x8192_S2x8192x8192_2_0_01_1_n_n none x (shapeCast S2048x8192 (extractStridedSlice S1x2048x8192 ![1, 0, 0] w slices_S2x2048x8192_S1x2048x8192_1_0_0) shapeCasts_S1x2048x8192_S2048x8192)) (broadcastInDim S2x8192x8192 ![] bcast_S_S2x8192x8192 (constant S_ .f32 0x00000000#32))

theorem actV_apply (x : FVec Ideal S2x8192x2048 .f32) (w : FVec Ideal S2x2048x8192 .f32) (a : Fin 2) (b : Fin 8192) (f : Fin 8192) :
    actV x w (ix3 a b f) = max (∑ k : Fin 2048, x (ix3 a b k) * w (ix3 1 k f)) 0 := by
  pointwise [actV]

/-- The reference's residual stream after the MLP, as its operations. -/
def resV (x h : FVec Ideal S2x8192x2048 .f32) (w1 : FVec Ideal S2x2048x8192 .f32) (w2 : FVec Ideal S2x8192x2048 .f32) : FVec Ideal S2x8192x2048 .f32 :=
  addf x (Host.dotGeneral dot_S2x8192x8192_S8192x2048_S2x8192x2048_2_0_01_1_n_n none (mulf (actV h w1) (actV h w1)) (shapeCast S8192x2048 (extractStridedSlice S1x8192x2048 ![1, 0, 0] w2 slices_S2x8192x2048_S1x8192x2048_1_0_0) shapeCasts_S1x8192x2048_S8192x2048))

theorem resV_apply (x h : FVec Ideal S2x8192x2048 .f32) (w1 : FVec Ideal S2x2048x8192 .f32) (w2 : FVec Ideal S2x8192x2048 .f32) (a : Fin 2) (b : Fin 8192) (d : Fin 2048) :
    resV x h w1 w2 (ix3 a b d) = x (ix3 a b d) + mlp (fun k => h (ix3 a b k)) (fun k f => w1 (ix3 1 k f)) (fun f d => w2 (ix3 1 f d)) d := by
  unfold resV
  pointwise
  simp only [actV_apply]
  rfl

/-- The gain row the reference slices. -/
theorem gain_apply (g : FVec Ideal S2x2048 .f32) (d : Fin 2048) :
    shapeCast S2048 (extractStridedSlice S1x2048 ![1, 0] g slices_S2x2048_S1x2048_1_0) shapeCasts_S1x2048_S2048 (ix1 d) = g (ix2 1 d) := by
  pointwise

/-- The reference's result as these stages. -/
theorem res_eq : (Value.res_out0 m c : Vec Ideal S16384x2048 .f32)
    = shapeCast S16384x2048 (normV (resV (m ((c : Thread nD τ).loc main_arg0)) (normV (m ((c : Thread nD τ).loc main_arg0)) (shapeCast S2048 (extractStridedSlice S1x2048 ![1, 0] (m ((c : Thread nD τ).loc main_arg1)) slices_S2x2048_S1x2048_1_0) shapeCasts_S1x2048_S2048)) (m ((c : Thread nD τ).loc main_arg3)) (m ((c : Thread nD τ).loc main_arg4))) (m ((c : Thread nD τ).loc main_arg2))) shapeCasts_S2x8192x2048_S16384x2048 := rfl

/-- The reference at row `R` and column `d`. -/
theorem result (R : Fin 16384) (d : Fin 2048) :
    (Value.res_out0 m c : Vec Ideal S16384x2048 .f32) (ix2 R d)
      = rms (fun k => X m c R k + mlp (rms (X m c R) (gain m c)) (W1 m c) (W2 m c) k) (fin m c) d := by
  rw [res_eq]
  pointwise
  rw [normV_apply]
  simp only [resV_apply, normV_apply, gain_apply]
  rfl

end Cert.MlpRef

end
-- ==== Proof.MlpTie.lean ====
/- The MLP call and its reference, side by side on memories that agree on the arguments. -/
module

public import proofs.«01_k».proof.Proof.MlpFold
public import proofs.«01_k».proof.Proof.MlpRef

@[expose] public section

noncomputable section

namespace Cert.MlpTie

open Idealize.ShloMosaic Idealize.ShloMosaic.TcCoe

/-- The reference's array is the kernel's. -/
theorem tie (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    (Cert.ReferenceIdeal.Value.res_main_v38 m' c : Vec Ideal Cert.ReferenceIdeal.S16384x2048 .f32) = Cert.KernelIdeal.Value.G5 m c := by
  obtain ⟨e0, e1, e2, e3, e4⟩ := h
  have hX : Cert.MlpRef.X m' c = Cert.MlpBlocks.X m c := by unfold Cert.MlpRef.X Cert.MlpBlocks.X; rw [e0]
  have hg : Cert.MlpRef.gain m' c = Cert.MlpBlocks.gain m c := by unfold Cert.MlpRef.gain Cert.MlpBlocks.gain; rw [e1]
  have hf : Cert.MlpRef.fin m' c = Cert.MlpBlocks.fin m c := by unfold Cert.MlpRef.fin Cert.MlpBlocks.fin; rw [e2]
  have h1 : Cert.MlpRef.W1 m' c = Cert.MlpBlocks.W1 m c := by unfold Cert.MlpRef.W1 Cert.MlpBlocks.W1; rw [e3]
  have h2 : Cert.MlpRef.W2 m' c = Cert.MlpBlocks.W2 m c := by unfold Cert.MlpRef.W2 Cert.MlpBlocks.W2; rw [e4]
  funext i
  idx_vars i
  refine (Cert.MlpRef.result m' c _ _).trans (Eq.trans ?_ (Cert.MlpFold.result m c _ _).symm)
  rw [hX, hg, hf, h1, h2]
  rfl

end Cert.MlpTie

end
-- ==== Proof.QkvCases.lean ====
/- What one grid point of the query-key-value call leaves, read at a row and a column: the rotated columns as a lane
   formula over the extended reals. -/
module

public import proofs.«01_k».proof.Proof.Gen.Kernel2Ideal.Frame
public import Idealize.ShloMosaic.Lib.Pipeline.ValueKit
public import Idealize.ShloMosaic.Lib.Pointwise
public import proofs.«01_k».proof.Proof.MlpMath

@[expose] public section

set_option maxRecDepth 16384

noncomputable section

namespace Cert.QkvCases

open Cert.MlpMath Cert.Kernel2Ideal Cert.Kernel2Ideal.Gen Idealize.ShloMosaic Idealize.ShloMosaic.TcCoe

/-- The column a column is rotated with: sixteen lanes up for the first sixteen lanes of a head, sixteen down for the others. -/
def partner (d : Fin 1024) : Fin 1024 :=
  ⟨d.val / 128 * 128 + (if d.val % 128 < 16 then (d.val % 128 + 16) % 128 else (d.val % 128 + 112) % 128), by
    have := d.isLt
    split <;> omega⟩

/-- A column's lane in its head. -/
def lane (d : Fin 1024) : Fin 128 := ⟨d.val % 128, Nat.mod_lt _ (by decide)⟩

/-- A row times a column. -/
def dot (xn : Fin 2048 → EReal) (w : Fin 2048 → Fin 1024 → EReal) (d : Fin 1024) : EReal := ∑ k, xn k * w k d

/-- A rotated column: the product times the cosine plus the partner's product times the signed sine. -/
def rot (xn : Fin 2048 → EReal) (w : Fin 2048 → Fin 1024 → EReal) (cs sn : Fin 128 → EReal) (d : Fin 1024) : EReal :=
  dot xn w d * cs (lane d) + dot xn w (partner d) * sn (lane d)

/-- The lane test the kernel makes. -/
theorem lane_lt (l : Fin 128) : (IntOp.cmpi CmpIPredicate.slt (BitVec.ofNat 32 l.val) 16#32) = if l.val < 16 then 1#1 else 0#1 := by
  revert l; decide +kernel

/-- One stored piece of rotated columns: the two candidate partners, chosen by the lane. -/
theorem piece (xn : Fin 2048 → EReal) (w : Fin 2048 → Fin 1024 → EReal) (cs sn : Fin 128 → EReal) (d : Fin 1024) (l : Fin 128)
    (j jp jm : Fin 1024) (hl : l.val = d.val % 128) (hj : j.val = d.val) (hp : jp.val = d.val - l.val + (l.val + 128 - 112) % 128)
    (hm : jm.val = d.val - l.val + (l.val + 128 - 16) % 128) :
    (∑ k, xn k * w k j) * cs l
      + Scalar.select (IntOp.cmpi CmpIPredicate.slt (BitVec.ofNat 32 l.val) 16#32) (∑ k, xn k * w k jp) (∑ k, xn k * w k jm) * sn l
      = rot xn w cs sn d := by
  obtain rfl : j = d := Fin.ext hj
  obtain rfl : l = lane j := Fin.ext hl
  rw [lane_lt]
  unfold rot
  by_cases hc : (lane j).val < 16
  · obtain rfl : jp = partner j := Fin.ext (by
      have h1 : (lane j).val = j.val % 128 := rfl
      rw [hp]; unfold partner; dsimp only; rw [if_pos (by omega)]; omega)
    rw [if_pos hc]
    rfl
  · obtain rfl : jm = partner j := Fin.ext (by
      have h1 : (lane j).val = j.val % 128 := rfl
      rw [hm]; unfold partner; dsimp only; rw [if_neg (by omega)]; omega)
    rw [if_neg hc]
    rfl

set_option maxHeartbeats 4000000 in
/-- A later query or key point rotates with the cosines and sines kept by the first point, the group's half of them. -/
theorem out_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S2x1024x128 .f32) (harg10 : arg10.IsWhole) (arg11 : Memref sig .tc .vmem S2x1024x128 .f32) (harg11 : arg11.IsWhole) (hc0 : ¬cond0_0 i) (hc1 : cond0_1 i) (hc2 : ¬cond0_2 i)
    (x0 : Vec Ideal S1024x2048 .f32) (x1 : Vec Ideal S1x2048 .f32) (x2 : Vec Ideal S2048x1024 .bf16) (x3 : Vec Ideal S1024x1 .f32) (x4 : Vec Ideal S1x128 .f32) (x5 : Vec Ideal S1x128 .f32) (xs0 : Vec Ideal S1024x2048 .bf16) (xs1 : Vec Ideal S2x1024x128 .f32) (xs2 : Vec Ideal S2x1024x128 .f32) (g : Fin 2) (ho1 : k0_off1 i = ![g.val, 0, 0]) (r : Fin 1024) (d : Fin 1024) :
    out0_B_6 c i arg2 harg2 arg3 harg3 arg4 harg4 arg5 harg5 arg6 harg6 arg7 harg7 arg8 harg8 arg9 harg9 arg10 harg10 arg11 harg11 hc0 hc1 hc2 x0 x1 x2 x3 x4 x5 xs0 xs1 xs2 (ix2 r d)
      = rot (fun k => xs0 (ix2 r k)) (fun k j => x2 (ix2 k j)) (fun l => xs1 (ix3 g r l)) (fun l => xs2 (ix3 g r l)) d := by
  frame_out
  canon_tiles y h
  all_goals
    open_payloads
    unfold_payloads
    idx_vars y
    pointwise
    obtain ⟨r, hr⟩ := r
    dsimp only at h0
    subst h0
    replace h1 : d.val = _ := h1
    have hy := y1.isLt
    simp only [ho1, Matrix.cons_val_zero, Matrix.cons_val_one, Matrix.cons_val, Nat.zero_add]
    refine piece (fun k => xs0 (ix2 ⟨_, hr⟩ k)) (fun k j => x2 (ix2 k j)) (fun l => xs1 (ix3 g ⟨_, hr⟩ l)) (fun l => xs2 (ix3 g ⟨_, hr⟩ l)) d y1 _ _ _ ?_ ?_ ?_ ?_
    all_goals (try dsimp only) <;> omega

/-- A value point is the plain product. -/
theorem out_C (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S2x1024x128 .f32) (harg10 : arg10.IsWhole) (arg11 : Memref sig .tc .vmem S2x1024x128 .f32) (harg11 : arg11.IsWhole) (hc0 : ¬cond0_0 i) (hc1 : ¬cond0_1 i) (hc2 : cond0_2 i)
    (x0 : Vec Ideal S1024x2048 .f32) (x1 : Vec Ideal S1x2048 .f32) (x2 : Vec Ideal S2048x1024 .bf16) (x3 : Vec Ideal S1024x1 .f32) (x4 : Vec Ideal S1x128 .f32) (x5 : Vec Ideal S1x128 .f32) (xs0 : Vec Ideal S1024x2048 .bf16) (xs1 : Vec Ideal S2x1024x128 .f32) (xs2 : Vec Ideal S2x1024x128 .f32) (r : Fin 1024) (d : Fin 1024) :
    out0_C_6 c i arg2 harg2 arg3 harg3 arg4 harg4 arg5 harg5 arg6 harg6 arg7 harg7 arg8 harg8 arg9 harg9 arg10 harg10 arg11 harg11 hc0 hc1 hc2 x0 x1 x2 x3 x4 x5 xs0 xs1 xs2 (ix2 r d)
      = dot (fun k => xs0 (ix2 r k)) (fun k j => x2 (ix2 k j)) d := by
  frame_out
  unfold_payloads
  pointwise
  rfl

set_option maxHeartbeats 4000000 in
/-- The first point normalises its rows and rotates with the scaled cosines and sines. -/
theorem out_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S2x1024x128 .f32) (harg10 : arg10.IsWhole) (arg11 : Memref sig .tc .vmem S2x1024x128 .f32) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S1024x1 .f32) (x4 : Vec Ideal S1x128 .f32) (x5 : Vec Ideal S1x128 .f32) (r : Fin 1024) (d : Fin 1024) :
    out0_A_6 c i arg2 harg2 arg3 harg3 arg4 harg4 arg5 harg5 arg6 harg6 arg7 harg7 arg8 harg8 arg9 harg9 arg10 harg10 arg11 harg11 hc0 hc1 hc2 x0 x1 x2 x3 x4 x5 (ix2 r d)
      = rot (rms (fun k => x0 (ix2 r k)) (fun k => x1 (ix2 0 k))) (fun k j => x2 (ix2 k j)) (fun l => Ideal.cos (x3 (ix2 r 0) * x4 (ix2 0 l)) * Ideal.ofBits FTy.f32 1040356334#32) (fun l => Ideal.sin (x3 (ix2 r 0) * x4 (ix2 0 l)) * x5 (ix2 0 l) * Ideal.ofBits FTy.f32 1040356334#32) d := by
  frame_out
  canon_tiles y h
  all_goals
    open_payloads
    unfold_payloads
    idx_vars y
    pointwise
    obtain ⟨r, hr⟩ := r
    dsimp only at h0
    subst h0
    replace h1 : d.val = _ := h1
    have hy := y1.isLt
    refine piece (rms (fun k => x0 (ix2 ⟨_, hr⟩ k)) (fun k => x1 (ix2 0 k))) (fun k j => x2 (ix2 k j)) (fun l => Ideal.cos (x3 (ix2 ⟨_, hr⟩ 0) * x4 (ix2 0 l)) * Ideal.ofBits FTy.f32 1040356334#32) (fun l => Ideal.sin (x3 (ix2 ⟨_, hr⟩ 0) * x4 (ix2 0 l)) * x5 (ix2 0 l) * Ideal.ofBits FTy.f32 1040356334#32) d y1 _ _ _ ?_ ?_ ?_ ?_
    all_goals (try dsimp only) <;> omega

/-- The first point keeps the normalised rows for the points that follow. -/
theorem sout_A_0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S2x1024x128 .f32) (harg10 : arg10.IsWhole) (arg11 : Memref sig .tc .vmem S2x1024x128 .f32) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S1024x1 .f32) (x4 : Vec Ideal S1x128 .f32) (x5 : Vec Ideal S1x128 .f32) (r : Fin 1024) (d : Fin 2048) :
    sout0_A_0 c i arg2 harg2 arg3 harg3 arg4 harg4 arg5 harg5 arg6 harg6 arg7 harg7 arg8 harg8 arg9 harg9 arg10 harg10 arg11 harg11 hc0 hc1 hc2 x0 x1 x2 x3 x4 x5 (ix2 r d)
      = rms (fun k => x0 (ix2 r k)) (fun k => x1 (ix2 0 k)) d := by
  frame_out
  canon_tiles y h
  all_goals
    open_payloads
    unfold_payloads
    idx_vars y
    pointwise
    obtain ⟨r, hr⟩ := r
    obtain ⟨d, hd⟩ := d
    dsimp only at h0 h1
    subst h0 h1
    rfl

/-- The first point keeps the cosines, the first half of them scaled. -/
theorem sout_A_1 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S2x1024x128 .f32) (harg10 : arg10.IsWhole) (arg11 : Memref sig .tc .vmem S2x1024x128 .f32) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S1024x1 .f32) (x4 : Vec Ideal S1x128 .f32) (x5 : Vec Ideal S1x128 .f32) (g : Fin 2) (r : Fin 1024) (d : Fin 128) :
    sout0_A_1 c i arg2 harg2 arg3 harg3 arg4 harg4 arg5 harg5 arg6 harg6 arg7 harg7 arg8 harg8 arg9 harg9 arg10 harg10 arg11 harg11 hc0 hc1 hc2 x0 x1 x2 x3 x4 x5 (ix3 g r d)
      = if g.val = 0 then Ideal.cos (x3 (ix2 r 0) * x4 (ix2 0 d)) * Ideal.ofBits FTy.f32 1040356334#32 else Ideal.cos (x3 (ix2 r 0) * x4 (ix2 0 d)) := by
  frame_out
  canon_tiles y h
  all_goals
    open_payloads
    unfold_payloads
    idx_vars y
    pointwise
    obtain ⟨g, hg⟩ := g
    obtain ⟨r, hr⟩ := r
    obtain ⟨d, hd⟩ := d
    dsimp only at h0 h1 h2
    subst h0 h1 h2
    have hy := y0.isLt
    dsimp only
    first
      | exact (if_pos (by omega)).symm
      | exact (if_neg (by omega)).symm

/-- The first point keeps the signed sines, the first half of them scaled. -/
theorem sout_A_2 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x1024 .bf16) (harg4 : arg4.IsWhole) (arg5 : Memref sig .tc .vmem S1024x1 .f32) (harg5 : arg5.IsWhole) (arg6 : Memref sig .tc .vmem S1x128 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1024x2048 .bf16) (harg9 : arg9.IsWhole) (arg10 : Memref sig .tc .vmem S2x1024x128 .f32) (harg10 : arg10.IsWhole) (arg11 : Memref sig .tc .vmem S2x1024x128 .f32) (harg11 : arg11.IsWhole) (hc0 : cond0_0 i) (hc1 : ¬cond0_1 i) (hc2 : ¬cond0_2 i)
    (x0 : Vec Ideal S1024x2048 .f32) (x1 : Vec Ideal S1x2048 .f32) (x2 : Vec Ideal S2048x1024 .bf16) (x3 : Vec Ideal S1024x1 .f32) (x4 : Vec Ideal S1x128 .f32) (x5 : Vec Ideal S1x128 .f32) (g : Fin 2) (r : Fin 1024) (d : Fin 128) :
    sout0_A_2 c i arg2 harg2 arg3 harg3 arg4 harg4 arg5 harg5 arg6 harg6 arg7 harg7 arg8 harg8 arg9 harg9 arg10 harg10 arg11 harg11 hc0 hc1 hc2 x0 x1 x2 x3 x4 x5 (ix3 g r d)
      = if g.val = 0 then Ideal.sin (x3 (ix2 r 0) * x4 (ix2 0 d)) * x5 (ix2 0 d) * Ideal.ofBits FTy.f32 1040356334#32 else Ideal.sin (x3 (ix2 r 0) * x4 (ix2 0 d)) * x5 (ix2 0 d) := by
  frame_out
  canon_tiles y h
  all_goals
    open_payloads
    unfold_payloads
    idx_vars y
    pointwise
    obtain ⟨g, hg⟩ := g
    obtain ⟨r, hr⟩ := r
    obtain ⟨d, hd⟩ := d
    dsimp only at h0 h1 h2
    subst h0 h1 h2
    have hy := y0.isLt
    dsimp only
    first
      | exact (if_pos (by omega)).symm
      | exact (if_neg (by omega)).symm

end Cert.QkvCases

end
-- ==== Proof.QkvMath.lean ====
/- The rotation of the query and key columns over the extended reals: the kernel multiplies a column by a cosine and its
   partner by a signed sine, over all 128 lanes of a head with zero frequency past lane 32; the plain formula rotates the
   first 32 lanes and leaves the others. -/
module

public import Idealize.ShloMosaic.PureOps.Ideal
public import Idealize.ShloMosaic.Lib.Pointwise

@[expose] public section

noncomputable section

namespace Cert.QkvMath

open Idealize.ShloMosaic

/-- The inverse frequency of rotation pair `i`. -/
def inv (i : ℕ) : EReal :=
  Ideal.div 1 (Ideal.pow (Ideal.ofBits .f32 1223959552#32) (FloatOps.sitofp (F := Ideal) .f32 (BitVec.ofNat 32 i) * Ideal.ofBits .f32 1031798784#32))

/-- The kernel's lane table of frequencies. -/
def freq (l : ℕ) : EReal := if l < 16 then inv l else if l - 16 < 16 then inv (l - 16) else 0

/-- The kernel's lane table of signs. -/
def sgn (l : ℕ) : EReal := if l < 16 then -1 else if l - 16 < 16 then 1 else 0

/-- The scale folded into the queries. -/
def scale : EReal := Ideal.ofBits .f32 1040356334#32

theorem scale_nonneg : 0 ≤ scale := by
  unfold scale
  simp [Ideal.ofBits, Ideal.ieee, -EReal.coe_mul]

theorem scale_ne_top : scale ≠ ⊤ := by
  unfold scale
  simp [Ideal.ofBits, Ideal.ieee, -EReal.coe_mul]

/-- Column `C` of a row `P` rotated at position `p`. -/
def rope (P : Fin 6144 → EReal) (p : EReal) (C : Fin 6144) : EReal :=
  if h : C.val % 128 < 16 then P C * Ideal.cos (p * inv (C.val % 128)) - P ⟨C.val + 16, by have := C.isLt; omega⟩ * Ideal.sin (p * inv (C.val % 128))
  else if C.val % 128 < 32 then P C * Ideal.cos (p * inv (C.val % 128 - 16)) + P ⟨C.val - 16, by have := C.isLt; omega⟩ * Ideal.sin (p * inv (C.val % 128 - 16))
  else P C

/-- A row of queries (rotated and scaled), keys (rotated) and values, from the row of products. -/
def qkv (P : Fin 6144 → EReal) (p : EReal) (C : Fin 6144) : EReal :=
  if C.val < 2048 then rope P p C * scale else if C.val < 4096 then rope P p C else P C

theorem cos_zero : Ideal.cos 0 = 1 := by
  show ((Real.cos 0 : ℝ) : EReal) = 1
  rw [Real.cos_zero]; rfl

/-- The kernel's rotation is the plain one. -/
theorem rope_eq (P : Fin 6144 → EReal) (p : EReal) (C C' : Fin 6144)
    (h1 : C.val % 128 < 16 → C'.val = C.val + 16) (h2 : ¬C.val % 128 < 16 → C.val % 128 < 32 → C'.val = C.val - 16) :
    P C * Ideal.cos (p * freq (C.val % 128)) + P C' * (Ideal.sin (p * freq (C.val % 128)) * sgn (C.val % 128)) = rope P p C := by
  unfold rope freq sgn
  by_cases ha : C.val % 128 < 16
  · obtain rfl : C' = ⟨C.val + 16, by have := C.isLt; omega⟩ := Fin.ext (h1 ha)
    rw [dif_pos ha, if_pos ha, if_pos ha, mul_neg_one, mul_neg, sub_eq_add_neg]
  · rw [dif_neg ha, if_neg ha, if_neg ha]
    by_cases hb : C.val % 128 < 32
    · obtain rfl : C' = ⟨C.val - 16, by have := C.isLt; omega⟩ := Fin.ext (h2 ha hb)
      rw [if_pos hb, if_pos (by omega), if_pos (by omega), mul_one]
    · rw [if_neg hb, if_neg (by omega), if_neg (by omega), mul_zero, mul_zero, mul_zero, cos_zero, mul_one, add_zero]

/-- The kernel's rotation with the scale folded into its cosines and sines. -/
theorem rope_scale (P : Fin 6144 → EReal) (p : EReal) (C C' : Fin 6144)
    (h1 : C.val % 128 < 16 → C'.val = C.val + 16) (h2 : ¬C.val % 128 < 16 → C.val % 128 < 32 → C'.val = C.val - 16) :
    P C * (Ideal.cos (p * freq (C.val % 128)) * scale) + P C' * (Ideal.sin (p * freq (C.val % 128)) * sgn (C.val % 128) * scale)
      = rope P p C * scale := by
  rw [← rope_eq P p C C' h1 h2, EReal.right_distrib_of_nonneg_of_ne_top scale_nonneg scale_ne_top, mul_assoc (P C), mul_assoc (P C')]

end Cert.QkvMath

end
-- ==== Proof.QkvBlocks.lean ====
/- The blocks the query-key-value call reads at a grid point, as reads of the arguments: row tile `t / 6` of the residual
   stream and of the positions, column block `t % 6` of the weight, the gain, and the lane tables of the rotation. -/
module

public import proofs.«01_k».proof.Proof.Gen.Kernel2Ideal.Frame
public import Idealize.ShloMosaic.Lib.Pipeline.ValueKit
public import Idealize.ShloMosaic.Lib.Pointwise
public import Idealize.ShloMosaic.Lib.StableHlo.ReadAt
public import proofs.«01_k».proof.Proof.MlpMath
public import proofs.«01_k».proof.Proof.QkvMath

@[expose] public section

set_option maxRecDepth 16384

noncomputable section

namespace Cert.QkvBlocks

open Cert.MlpMath Cert.Kernel2Ideal Cert.Kernel2Ideal.Gen Idealize.ShloMosaic Idealize.ShloMosaic.TcCoe

variable (m : (ℓ : Loc nD τ sig) → Buf (Elt Ideal) ℓ) (c : Dev nD)

/-- Row `R` of the residual stream, the two leading axes taken as one. -/
def X (R : Fin 16384) (d : Fin 2048) : EReal :=
  (m ((c : Thread nD τ).loc main_arg0) : Vec Ideal S2x8192x2048 .f32) (ix3 ⟨R.val / 8192, by have := R.isLt; omega⟩ ⟨R.val % 8192, Nat.mod_lt _ (by decide)⟩ d)
/-- The position of row `R`. -/
def pos (R : Fin 16384) : EReal :=
  FloatOps.sitofp (F := Ideal) .f32 ((m ((c : Thread nD τ).loc main_arg1) : Vec Ideal S2x8192 .i32) (ix2 ⟨R.val / 8192, by have := R.isLt; omega⟩ ⟨R.val % 8192, Nat.mod_lt _ (by decide)⟩))
/-- The layer's gain. -/
def gain (d : Fin 2048) : EReal := (m ((c : Thread nD τ).loc main_arg2) : Vec Ideal S2x2048 .f32) (ix2 1 d)
/-- The weight. -/
def W (k : Fin 2048) (f : Fin 6144) : EReal := (m ((c : Thread nD τ).loc main_arg3) : Vec Ideal S1x2048x6144 .f32) (ix3 0 k f)

/-- The index maps over the grid. -/
theorem idx : ∀ t : Fin cfg0.N, win0_0.index t = ![t.val / 6, 0] ∧ win0_1.index t = ![0, 0] ∧ win0_2.index t = ![0, t.val % 6]
    ∧ win0_3.index t = ![t.val / 6, 0] ∧ win0_4.index t = ![0, 0] ∧ win0_5.index t = ![0, 0] :=
  (by decide +kernel : ∀ t : Fin grid0.N, _)

/-- Row `r` of the tile that point `t` works on. -/
def row (t : Fin cfg0.N) (r : Fin 1024) : Fin 16384 :=
  ⟨1024 * (t.val / 6) + r.val, by have := r.isLt; have := lt_of_lt_of_eq t.isLt (show cfg0.N = 96 from N_0); omega⟩

/-- Column `d` of the column block that point `t` works on. -/
def col (t : Fin cfg0.N) (d : Fin 1024) : Fin 6144 :=
  ⟨1024 * (t.val % 6) + d.val, by have := d.isLt; omega⟩

theorem read0 (t : Fin cfg0.N) (r : Fin 1024) (d : Fin 2048) : (iblk m c 0 t : Vec Ideal S1024x2048 .f32) (ix2 r d) = X m c (row t r) d := by
  have hi := idx t
  unfold X row
  blk_ext! [iblk, hi.1]

theorem read1 (t : Fin cfg0.N) (d : Fin 2048) : (iblk m c 1 t : Vec Ideal S1x2048 .f32) (ix2 0 d) = gain m c d := by
  have hi := idx t
  unfold gain
  blk_ext! [iblk, hi.2.1]

theorem read2 (t : Fin cfg0.N) (k : Fin 2048) (f : Fin 1024) : (iblk m c 2 t : Vec Ideal S2048x1024 .bf16) (ix2 k f) = W m c k (col t f) := by
  have hi := idx t
  unfold W col
  blk_ext! [iblk, hi.2.2.1]

theorem tab3 (R : Fin 16384) : (V m c main_v23 : Vec Ideal S16384x1 .f32) (ix2 R 0) = pos m c R := by
  unfold V
  after_reads_at
  rfl

theorem read3 (t : Fin cfg0.N) (r : Fin 1024) : (iblk m c 3 t : Vec Ideal S1024x1 .f32) (ix2 r 0) = pos m c (row t r) := by
  have hi := idx t
  refine Eq.trans ?_ (tab3 m c (row t r))
  unfold row
  blk_ext [iblk, hi.2.2.2.1]

theorem tab4 (l : Fin 128) : (V m c main_v15 : Vec Ideal S1x128 .f32) (ix2 0 l) = QkvMath.freq l.val := by
  unfold V QkvMath.freq QkvMath.inv
  after_reads_at
  split_ifs <;> after_reads_at
  all_goals rfl

theorem tab5 (l : Fin 128) : (V m c main_v20 : Vec Ideal S1x128 .f32) (ix2 0 l) = QkvMath.sgn l.val := by
  unfold V QkvMath.sgn
  after_reads_at
  split_ifs <;> after_reads_at
  all_goals rfl

theorem read4 (t : Fin cfg0.N) (l : Fin 128) : (iblk m c 4 t : Vec Ideal S1x128 .f32) (ix2 0 l) = QkvMath.freq l.val := by
  have hi := idx t
  refine Eq.trans ?_ (tab4 m c l)
  blk_ext [iblk, hi.2.2.2.2.1]

theorem read5 (t : Fin cfg0.N) (l : Fin 128) : (iblk m c 5 t : Vec Ideal S1x128 .f32) (ix2 0 l) = QkvMath.sgn l.val := by
  have hi := idx t
  refine Eq.trans ?_ (tab5 m c l)
  blk_ext [iblk, hi.2.2.2.2.2]

end Cert.QkvBlocks

end
-- ==== Proof.QkvFold.lean ====
/- The query-key-value call over a row tile: after every point the carried scratches hold the tile's normalised rows and
   their cosines and sines, and the point's output block is its columns of the plain formula. -/
module

public import proofs.«01_k».proof.Proof.Gen.Kernel2Ideal.Value
public import proofs.«01_k».proof.Proof.QkvCases
public import proofs.«01_k».proof.Proof.QkvBlocks

@[expose] public section

set_option maxRecDepth 16384

noncomputable section

namespace Cert.QkvFold

open Cert.MlpMath Cert.QkvMath Cert.QkvBlocks Cert.QkvCases Cert.Kernel2Ideal Cert.Kernel2Ideal.Gen Idealize.ShloMosaic Idealize.ShloMosaic.TcCoe

variable (m : (ℓ : Loc nD τ sig) → Buf (Elt Ideal) ℓ) (c : Dev nD)

/-- The normalised row. -/
def xn (R : Fin 16384) : Fin 2048 → EReal := rms (X m c R) (gain m c)

/-- The row of products. -/
def P (R : Fin 16384) (C : Fin 6144) : EReal := ∑ k, xn m c R k * W m c k C

/-- The kept cosines: scaled for the queries, plain for the keys. -/
def cs (g : Fin 2) (R : Fin 16384) (l : Fin 128) : EReal :=
  if g.val = 0 then Ideal.cos (pos m c R * freq l.val) * scale else Ideal.cos (pos m c R * freq l.val)

/-- The kept signed sines. -/
def sn (g : Fin 2) (R : Fin 16384) (l : Fin 128) : EReal :=
  if g.val = 0 then Ideal.sin (pos m c R * freq l.val) * sgn l.val * scale else Ideal.sin (pos m c R * freq l.val) * sgn l.val

/-- The blocks' reads, as functions of their row or column. -/
theorem fun0 (t : Fin cfg0.N) (r : Fin 1024) : (fun d => (iblk m c 0 t : Vec Ideal S1024x2048 .f32) (ix2 r d)) = X m c (row t r) := funext (read0 m c t r)
theorem fun1 (t : Fin cfg0.N) : (fun d => (iblk m c 1 t : Vec Ideal S1x2048 .f32) (ix2 0 d)) = gain m c := funext (read1 m c t)

/-- A row of a point's product. -/
theorem dot_eq (t : Fin cfg0.N) (R : Fin 16384) (d : Fin 1024) :
    dot (xn m c R) (fun k j => (iblk m c 2 t : Vec Ideal S2048x1024 .bf16) (ix2 k j)) d = P m c R (col t d) := by
  unfold dot P
  exact Finset.sum_congr rfl fun k _ => congrArg (xn m c R k * ·) (read2 m c t k d)

/-- A column of a point's block has its own lane. -/
theorem col_lane (t : Fin cfg0.N) (d : Fin 1024) : (lane d).val = (col t d).val % 128 := by
  show d.val % 128 = (1024 * (t.val % 6) + d.val) % 128
  omega

/-- A rotated column of a query or key point. -/
theorem rot_eq (t : Fin cfg0.N) (R : Fin 16384) (d : Fin 1024) (g : Fin 2) (hg : g.val = if 2 ≤ t.val % 6 then 1 else 0) (h4 : t.val % 6 < 4) :
    rot (xn m c R) (fun k j => (iblk m c 2 t : Vec Ideal S2048x1024 .bf16) (ix2 k j)) (cs m c g R) (sn m c g R) d
      = qkv (P m c R) (pos m c R) (col t d) := by
  have hd := d.isLt
  have hcol : (col t d).val = 1024 * (t.val % 6) + d.val := rfl
  have h1 : (col t d).val % 128 < 16 → (col t (partner d)).val = (col t d).val + 16 := by
    intro h
    show 1024 * (t.val % 6) + (partner d).val = _
    unfold partner
    rw [hcol] at h ⊢
    dsimp only
    rw [if_pos (by omega)]
    omega
  have h2 : ¬(col t d).val % 128 < 16 → (col t d).val % 128 < 32 → (col t (partner d)).val = (col t d).val - 16 := by
    intro h h'
    show 1024 * (t.val % 6) + (partner d).val = _
    unfold partner
    rw [hcol] at h h' ⊢
    dsimp only
    rw [if_neg (by omega)]
    omega
  unfold rot cs sn qkv
  rw [dot_eq, dot_eq, col_lane t d]
  by_cases hq : 2 ≤ t.val % 6
  · rw [if_pos hq] at hg
    rw [if_neg (by omega), if_neg (by omega), if_neg (by omega), if_pos (by omega)]
    exact rope_eq _ _ _ _ h1 h2
  · rw [if_neg hq] at hg
    rw [if_pos hg, if_pos hg, if_pos (by omega)]
    exact rope_scale _ _ _ _ h1 h2

/-- The scratch rows a later query or key point reads: the queries' half, then the keys'. -/
theorem offs : ∀ t : Fin cfg0.N, 1 ≤ t.val % 6 ∧ t.val % 6 ≤ 3 →
    k0_off1 (grid0.coords t) = ![if 2 ≤ t.val % 6 then 1 else 0, 0, 0] :=
  (by decide +kernel : ∀ t : Fin grid0.N, _)

/-- A row of the tile is the same row at every point of the tile. -/
theorem row_succ (n : ℕ) (h : n + 1 < cfg0.N) (hm : ¬(n + 1) % 6 = 0) (r : Fin 1024) :
    row ⟨n + 1, h⟩ r = row ⟨n, Nat.lt_of_succ_lt h⟩ r := Fin.ext (by show 1024 * ((n + 1) / 6) + _ = 1024 * (n / 6) + _; omega)

/-- What the scratches hold after a point. -/
def Kept (n : ℕ) (h : n < cfg0.N) : Prop :=
  (∀ (r : Fin 1024) (k : Fin 2048), (outsAt0 m c n h).2.1 (ix2 r k) = xn m c (row ⟨n, h⟩ r) k)
  ∧ (∀ (g : Fin 2) (r : Fin 1024) (l : Fin 128), (outsAt0 m c n h).2.2.1 (ix3 g r l) = cs m c g (row ⟨n, h⟩ r) l)
  ∧ (∀ (g : Fin 2) (r : Fin 1024) (l : Fin 128), (outsAt0 m c n h).2.2.2 (ix3 g r l) = sn m c g (row ⟨n, h⟩ r) l)

/-- The first point of a tile. -/
theorem first (t : Fin cfg0.N) (h0 : t.val % 6 = 0) : Kept m c t.val t.isLt
    ∧ ∀ (r d : Fin 1024), (outsAt0 m c t.val t.isLt).1 (ix2 r d) = qkv (P m c (row t r)) (pos m c (row t r)) (col t d) := by
  unfold Kept
  rw [outsAt0_A m c t h0 (by omega) (by omega)]
  dsimp only
  refine ⟨⟨fun r k => ?_, fun g r l => ?_, fun g r l => ?_⟩, fun r d => ?_⟩
  · refine (sout_A_0 _ _ _ _ _ _ _ _ _ _ _ _ _ _ _ _ _ _ _ _ _ _ _ _ _ _ _ _ _ _ _ r k).trans ?_
    rw [fun0, fun1]
    rfl
  · refine (sout_A_1 _ _ _ _ _ _ _ _ _ _ _ _ _ _ _ _ _ _ _ _ _ _ _ _ _ _ _ _ _ _ _ g r l).trans ?_
    rw [read3, read4]
    rfl
  · refine (sout_A_2 _ _ _ _ _ _ _ _ _ _ _ _ _ _ _ _ _ _ _ _ _ _ _ _ _ _ _ _ _ _ _ g r l).trans ?_
    rw [read3, read4, read5]
    rfl
  · refine (out_A _ _ _ _ _ _ _ _ _ _ _ _ _ _ _ _ _ _ _ _ _ _ _ _ _ _ _ _ _ _ _ r d).trans ?_
    rw [fun0, fun1, read3]
    simp only [read4, read5]
    exact rot_eq m c t (row t r) d 0 (by rw [if_neg (by omega)]; rfl) (by omega)

/-- A point after the first: the scratches stay, and the block is read off them. -/
theorem later (n : ℕ) (h : n + 1 < cfg0.N) (h0 : ¬(n + 1) % 6 = 0) (hk : Kept m c n (Nat.lt_of_succ_lt h)) : Kept m c (n + 1) h
    ∧ ∀ (r d : Fin 1024), (outsAt0 m c (n + 1) h).1 (ix2 r d)
      = qkv (P m c (row ⟨n + 1, h⟩ r)) (pos m c (row ⟨n + 1, h⟩ r)) (col ⟨n + 1, h⟩ d) := by
  obtain ⟨k0, k1, k2⟩ := hk
  have e0 : ∀ (r : Fin 1024), (fun k => (outsAt0 m c n (Nat.lt_of_succ_lt h)).2.1 (ix2 r k)) = xn m c (row ⟨n + 1, h⟩ r) :=
    fun r => funext fun k => by rw [row_succ n h h0]; exact k0 r k
  have e1 : ∀ (g : Fin 2) (r : Fin 1024), (fun l => (outsAt0 m c n (Nat.lt_of_succ_lt h)).2.2.1 (ix3 g r l)) = cs m c g (row ⟨n + 1, h⟩ r) :=
    fun g r => funext fun l => by rw [row_succ n h h0]; exact k1 g r l
  have e2 : ∀ (g : Fin 2) (r : Fin 1024), (fun l => (outsAt0 m c n (Nat.lt_of_succ_lt h)).2.2.2 (ix3 g r l)) = sn m c g (row ⟨n + 1, h⟩ r) :=
    fun g r => funext fun l => by rw [row_succ n h h0]; exact k2 g r l
  unfold Kept
  by_cases hB : 4 ≤ (n + 1) % 6
  · rw [outsAt0_C m c ⟨n + 1, h⟩ h0 (by dsimp only; omega) hB]
    dsimp only
    refine ⟨⟨fun r => congrFun (e0 r), fun g r => congrFun (e1 g r), fun g r => congrFun (e2 g r)⟩, fun r d => ?_⟩
    refine (out_C _ _ _ _ _ _ _ _ _ _ _ _ _ _ _ _ _ _ _ _ _ _ _ _ _ _ _ _ _ _ _ _ _ _ r d).trans ?_
    show dot (fun k => (outsAt0 m c n (Nat.lt_of_succ_lt h)).2.1 (ix2 r k)) _ d = _
    rw [e0, dot_eq]
    unfold qkv
    have hcol : (col ⟨n + 1, h⟩ d).val = 1024 * ((n + 1) % 6) + d.val := rfl
    rw [if_neg (by omega), if_neg (by omega)]
  · have hB' : 1 ≤ (n + 1) % 6 ∧ (n + 1) % 6 ≤ 3 := by omega
    have o1 := offs ⟨n + 1, h⟩ hB'
    rw [outsAt0_B m c ⟨n + 1, h⟩ h0 hB' hB]
    dsimp only
    refine ⟨⟨fun r => congrFun (e0 r), fun g r => congrFun (e1 g r), fun g r => congrFun (e2 g r)⟩, fun r d => ?_⟩
    have hg : (if 2 ≤ (n + 1) % 6 then 1 else 0) < 2 := by split <;> omega
    refine (out_B _ _ _ _ _ _ _ _ _ _ _ _ _ _ _ _ _ _ _ _ _ _ _ _ _ _ _ _ _ _ _ _ _ _ ⟨if 2 ≤ (n + 1) % 6 then 1 else 0, hg⟩ o1 r d).trans ?_
    show rot (fun k => (outsAt0 m c n (Nat.lt_of_succ_lt h)).2.1 (ix2 r k)) _ (fun l => (outsAt0 m c n (Nat.lt_of_succ_lt h)).2.2.1 (ix3 _ r l))
      (fun l => (outsAt0 m c n (Nat.lt_of_succ_lt h)).2.2.2 (ix3 _ r l)) d = _
    rw [e0, e1, e2]
    exact rot_eq m c ⟨n + 1, h⟩ _ d _ rfl (by dsimp only; omega)

/-- Every point's scratches and block. -/
theorem outs_eq : ∀ (n : ℕ) (h : n < cfg0.N), Kept m c n h
    ∧ ∀ (r d : Fin 1024), (outsAt0 m c n h).1 (ix2 r d) = qkv (P m c (row ⟨n, h⟩ r)) (pos m c (row ⟨n, h⟩ r)) (col ⟨n, h⟩ d) := by
  intro n
  induction n with
  | zero => intro h; exact first m c ⟨0, h⟩ rfl
  | succ n ih =>
    intro h
    by_cases h0 : (n + 1) % 6 = 0
    · exact first m c ⟨n + 1, h⟩ h0
    · exact later m c n h h0 (ih (Nat.lt_of_succ_lt h)).1

/-- The array after the run, at row `R` and column `C`. -/
theorem result (R : Fin 16384) (C : Fin 6144) :
    (Value.G6 m c : Vec Ideal S16384x6144 .f32) (ix2 R C) = qkv (P m c R) (pos m c R) C := by
  have hN : cfg0.N = 96 := N_0
  have hR := R.isLt
  have hC := C.isLt
  have hp : Value.pt6Of (ix2 R C) = 6 * (R.val / 1024) + C.val / 1024 := by
    show 6 * (R.val / 1024 - 0) + 1 * (C.val / 1024 - 0) = _
    omega
  have hb : 6 * (R.val / 1024) + C.val / 1024 < cfg0.N := by omega
  unfold Value.G6
  rw [dif_pos (by rw [hp]; exact hb), ← Value.outsAt0_sweep m c _ (by rw [hp]; exact hb)]
  have key : ∀ (p : ℕ) (hp : p < cfg0.N), p = 6 * (R.val / 1024) + C.val / 1024 → ∀ (i : S1024x1024.Idx),
      i = ix2 ⟨R.val % 1024, Nat.mod_lt _ (by decide)⟩ ⟨C.val % 1024, Nat.mod_lt _ (by decide)⟩ →
      (outsAt0 m c p hp).1 i = qkv (P m c R) (pos m c R) C := by
    rintro p hp rfl i rfl
    rw [(outs_eq m c _ hp).2]
    have hrow : row ⟨6 * (R.val / 1024) + C.val / 1024, hp⟩ ⟨R.val % 1024, Nat.mod_lt _ (by decide)⟩ = R :=
      Fin.ext (by show 1024 * ((6 * (R.val / 1024) + C.val / 1024) / 6) + R.val % 1024 = R.val; omega)
    have hcol : col ⟨6 * (R.val / 1024) + C.val / 1024, hp⟩ ⟨C.val % 1024, Nat.mod_lt _ (by decide)⟩ = C :=
      Fin.ext (by show 1024 * ((6 * (R.val / 1024) + C.val / 1024) % 6) + C.val % 1024 = C.val; omega)
    rw [hrow, hcol]
  exact key _ _ hp _ (eq_ix2 _)

end Cert.QkvFold

end
-- ==== Proof.QkvRef.lean ====
/- The query-key-value reference's result at a row and a column: the plain formula of QkvMath. -/
module

public import proofs.«01_k».proof.Proof.Gen.Reference2Ideal.Run
public import Idealize.ShloMosaic.Lib.Pointwise
public import proofs.«01_k».proof.Proof.MlpMath
public import proofs.«01_k».proof.Proof.QkvMath

@[expose] public section

set_option maxRecDepth 16384

noncomputable section

namespace Cert.QkvRef

open Cert.MlpMath Cert.QkvMath Cert.Reference2Ideal Cert.Reference2Ideal.Gen Idealize.ShloMosaic Idealize.ShloMosaic.TcCoe

/-- The products of the normalised rows, as the reference's operations, cut into queries, keys and values of heads. -/
def qkvV (x : FVec Ideal S2x8192x2048 .f32) (g : FVec Ideal S2x2048 .f32) (w : FVec Ideal S1x2048x6144 .f32) : FVec Ideal S2x8192x3x16x128 .f32 :=
  shapeCast S2x8192x3x16x128 (Host.dotGeneral dot_S2x8192x2048_S2048x6144_S2x8192x6144_2_0_01_1_n_n none (mulf (mulf x (broadcastInDim S2x8192x2048 ![0, 1, 2] bcast_S2x8192x1_S2x8192x2048_0_1_2 (Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))))) (broadcastInDim S2x8192x2048 ![0, 1, 2] bcast_S1x1x2048_S2x8192x2048_0_1_2 (broadcastInDim S1x1x2048 ![2] bcast_S2048_S1x1x2048_2 (shapeCast S2048 (extractStridedSlice S1x2048 ![1, 0] g slices_S2x2048_S1x2048_1_0) shapeCasts_S1x2048_S2048)))) (shapeCast S2048x6144 w shapeCasts_S1x2048x6144_S2048x6144)) shapeCasts_S2x8192x6144_S2x8192x3x16x128

theorem qkvV_apply (x : FVec Ideal S2x8192x2048 .f32) (g : FVec Ideal S2x2048 .f32) (w : FVec Ideal S1x2048x6144 .f32)
    (a : Fin 2) (b : Fin 8192) (s : Fin 3) (h : Fin 16) (l : Fin 128) :
    qkvV x g w (ix5 a b s h l) = ∑ k : Fin 2048, rms (fun k => x (ix3 a b k)) (fun k => g (ix2 1 k)) k
      * w (ix3 0 k ⟨2048 * s.val + 128 * h.val + l.val, by have := s.isLt; have := h.isLt; have := l.isLt; omega⟩) := by
  pointwise [qkvV]
  refine Finset.sum_congr rfl fun k _ => congrArg (_ * w ·) (congrArg (ix3 0 k ·) (Fin.ext ?_))
  show s.val * 2048 + h.val * 128 + l.val = 2048 * s.val + 128 * h.val + l.val
  omega

/-- The angles. -/
def angV (p : IVec S2x8192 32) : FVec Ideal S2x8192x1x16 .f32 :=
  mulf (broadcastInDim S2x8192x1x16 ![0, 1, 2, 3] bcast_S2x8192x1x1_S2x8192x1x16_0_1_2_3 (broadcastInDim S2x8192x1x1 ![0, 1] bcast_S2x8192_S2x8192x1x1_0_1 (sitofp .f32 p))) (broadcastInDim S2x8192x1x16 ![0, 1, 2, 3] bcast_S1x1x1x16_S2x8192x1x16_0_1_2_3 (broadcastInDim S1x1x1x16 ![3] bcast_S16_S1x1x1x16_3 (Host.divf (broadcastInDim S16 ![] bcast_S_S16 (constant S_ .f32 0x3F800000#32)) (Host.powf (broadcastInDim S16 ![] bcast_S_S16 (constant S_ .f32 0x48F42400#32)) (mulf (sitofp .f32 (iotaInDim S16 32 0)) (broadcastInDim S16 ![] bcast_S_S16 (constant S_ .f32 0x3D800000#32)))))))

theorem angV_apply (p : IVec S2x8192 32) (a : Fin 2) (b : Fin 8192) (i : Fin 16) :
    angV p (ix4 a b 0 i) = FloatOps.sitofp (F := Ideal) .f32 (p (ix2 a b)) * QkvMath.inv i.val := by
  unfold QkvMath.inv
  pointwise [angV]

/-- The rotation of queries or keys, as the reference's operations. -/
def ropeV (t : FVec Ideal S2x8192x16x128 .f32) (an : FVec Ideal S2x8192x1x16 .f32) : FVec Ideal S2x8192x16x128 .f32 :=
  concatenate S2x8192x16x128 3 [⟨S2x8192x16x16, subf (mulf (extractStridedSlice S2x8192x16x16 ![0, 0, 0, 0] t slices_S2x8192x16x128_S2x8192x16x16_0_0_0_0) (broadcastInDim S2x8192x16x16 ![0, 1, 2, 3] bcast_S2x8192x1x16_S2x8192x16x16_0_1_2_3 (Host.cos an))) (mulf (extractStridedSlice S2x8192x16x16 ![0, 0, 0, 16] t slices_S2x8192x16x128_S2x8192x16x16_0_0_0_16) (broadcastInDim S2x8192x16x16 ![0, 1, 2, 3] bcast_S2x8192x1x16_S2x8192x16x16_0_1_2_3 (Host.sin an)))⟩, ⟨S2x8192x16x16, addf (mulf (extractStridedSlice S2x8192x16x16 ![0, 0, 0, 16] t slices_S2x8192x16x128_S2x8192x16x16_0_0_0_16) (broadcastInDim S2x8192x16x16 ![0, 1, 2, 3] bcast_S2x8192x1x16_S2x8192x16x16_0_1_2_3 (Host.cos an))) (mulf (extractStridedSlice S2x8192x16x16 ![0, 0, 0, 0] t slices_S2x8192x16x128_S2x8192x16x16_0_0_0_0) (broadcastInDim S2x8192x16x16 ![0, 1, 2, 3] bcast_S2x8192x1x16_S2x8192x16x16_0_1_2_3 (Host.sin an)))⟩, ⟨S2x8192x16x96, extractStridedSlice S2x8192x16x96 ![0, 0, 0, 32] t slices_S2x8192x16x128_S2x8192x16x96_0_0_0_32⟩] concatenates_S2x8192x16x16_S2x8192x16x16_S2x8192x16x96_S2x8192x16x128_d3

theorem ropeV_apply (t : FVec Ideal S2x8192x16x128 .f32) (an : FVec Ideal S2x8192x1x16 .f32) (a : Fin 2) (b : Fin 8192) (h : Fin 16) (l : Fin 128) :
    ropeV t an (ix4 a b h l)
      = if h0 : l.val < 16 then t (ix4 a b h l) * Ideal.cos (an (ix4 a b 0 ⟨l.val, h0⟩)) - t (ix4 a b h ⟨l.val + 16, by omega⟩) * Ideal.sin (an (ix4 a b 0 ⟨l.val, h0⟩))
        else if h1 : l.val < 32 then t (ix4 a b h l) * Ideal.cos (an (ix4 a b 0 ⟨l.val - 16, by omega⟩)) + t (ix4 a b h ⟨l.val - 16, by omega⟩) * Ideal.sin (an (ix4 a b 0 ⟨l.val - 16, by omega⟩))
        else t (ix4 a b h l) := by
  pointwise [ropeV]
  have at' : ∀ l' : Fin 128, l'.val = l.val → t (ix4 a b h l') = t (ix4 a b h l) := fun l' e => congrArg (fun y => t (ix4 a b h y)) (Fin.ext e)
  by_cases h0 : l.val < 16
  · rw [dif_pos h0, dif_pos h0]
    refine congrArg (fun y : Fin 128 => _ - t (ix4 a b h y) * _) (Fin.ext ?_)
    exact Nat.add_comm _ _
  · rw [dif_neg h0, dif_neg h0]
    by_cases h1 : l.val < 32
    · rw [dif_pos (show l.val - 16 < 16 by omega), dif_pos h1, at' _ (show 16 + (l.val - 16) = l.val by omega)]
    · rw [dif_neg (show ¬l.val - 16 < 16 by omega), dif_neg h1, at' _ (show 32 + (l.val - 16 - 16) = l.val by omega)]

/-- The heads of one of queries, keys and values. -/
def cutQ (t : FVec Ideal S2x8192x3x16x128 .f32) : FVec Ideal S2x8192x16x128 .f32 :=
  shapeCast S2x8192x16x128 (extractStridedSlice S2x8192x1x16x128 ![0, 0, 0, 0, 0] t slices_S2x8192x3x16x128_S2x8192x1x16x128_0_0_0_0_0) shapeCasts_S2x8192x1x16x128_S2x8192x16x128
def cutK (t : FVec Ideal S2x8192x3x16x128 .f32) : FVec Ideal S2x8192x16x128 .f32 :=
  shapeCast S2x8192x16x128 (extractStridedSlice S2x8192x1x16x128 ![0, 0, 1, 0, 0] t slices_S2x8192x3x16x128_S2x8192x1x16x128_0_0_1_0_0) shapeCasts_S2x8192x1x16x128_S2x8192x16x128
def cutV (t : FVec Ideal S2x8192x3x16x128 .f32) : FVec Ideal S2x8192x16x128 .f32 :=
  shapeCast S2x8192x16x128 (extractStridedSlice S2x8192x1x16x128 ![0, 0, 2, 0, 0] t slices_S2x8192x3x16x128_S2x8192x1x16x128_0_0_2_0_0) shapeCasts_S2x8192x1x16x128_S2x8192x16x128

theorem cutQ_apply (t : FVec Ideal S2x8192x3x16x128 .f32) (a : Fin 2) (b : Fin 8192) (h : Fin 16) (l : Fin 128) :
    cutQ t (ix4 a b h l) = t (ix5 a b 0 h l) := by
  pointwise [cutQ]
theorem cutK_apply (t : FVec Ideal S2x8192x3x16x128 .f32) (a : Fin 2) (b : Fin 8192) (h : Fin 16) (l : Fin 128) :
    cutK t (ix4 a b h l) = t (ix5 a b 1 h l) := by
  pointwise [cutK]
theorem cutV_apply (t : FVec Ideal S2x8192x3x16x128 .f32) (a : Fin 2) (b : Fin 8192) (h : Fin 16) (l : Fin 128) :
    cutV t (ix4 a b h l) = t (ix5 a b 2 h l) := by
  pointwise [cutV]

/-- The three parts side by side as columns. -/
def joinV (q k v : FVec Ideal S2x8192x16x128 .f32) : FVec Ideal S16384x6144 .f32 :=
  concatenate S16384x6144 1 [⟨S16384x2048, shapeCast S16384x2048 (mulf q (broadcastInDim S2x8192x16x128 ![] bcast_S_S2x8192x16x128 (constant S_ .f32 0x3E0293EE#32))) shapeCasts_S2x8192x16x128_S16384x2048⟩, ⟨S16384x2048, shapeCast S16384x2048 k shapeCasts_S2x8192x16x128_S16384x2048⟩, ⟨S16384x2048, shapeCast S16384x2048 v shapeCasts_S2x8192x16x128_S16384x2048⟩] concatenates_S16384x2048_S16384x2048_S16384x2048_S16384x6144_d1

theorem joinV_apply (q k v : FVec Ideal S2x8192x16x128 .f32) (R : Fin 16384) (C : Fin 6144) :
    joinV q k v (ix2 R C)
      = if C.val < 2048 then q (ix4 ⟨R.val / 8192, by omega⟩ ⟨R.val % 8192, by omega⟩ ⟨C.val % 2048 / 128, by omega⟩ ⟨C.val % 128, by omega⟩) * scale
        else if C.val < 4096 then k (ix4 ⟨R.val / 8192, by omega⟩ ⟨R.val % 8192, by omega⟩ ⟨C.val % 2048 / 128, by omega⟩ ⟨C.val % 128, by omega⟩)
        else v (ix4 ⟨R.val / 8192, by omega⟩ ⟨R.val % 8192, by omega⟩ ⟨C.val % 2048 / 128, by omega⟩ ⟨C.val % 128, by omega⟩) := by
  pointwise [joinV]
  have at' : ∀ (x : FVec Ideal S2x8192x16x128 .f32) (h h' : Fin 16) (l l' : Fin 128), h.val = h'.val → l.val = l'.val →
      x (ix4 ⟨R.val / 8192, by omega⟩ ⟨R.val % 8192, by omega⟩ h l) = x (ix4 ⟨R.val / 8192, by omega⟩ ⟨R.val % 8192, by omega⟩ h' l') := by
    rintro x h h' l l' e e'
    rw [Fin.ext e, Fin.ext e']
  by_cases h0 : C.val < 2048
  · rw [dif_pos h0, if_pos h0]
    exact congrArg (· * scale) (at' q _ _ _ _ (show C.val / 128 = C.val % 2048 / 128 by omega) rfl)
  · rw [dif_neg h0, if_neg h0]
    by_cases h1 : C.val < 4096
    · rw [dif_pos (show C.val - 2048 < 2048 by omega), if_pos h1]
      exact at' k _ _ _ _ (show (C.val - 2048) / 128 = C.val % 2048 / 128 by omega) (show (C.val - 2048) % 128 = C.val % 128 by omega)
    · rw [dif_neg (show ¬C.val - 2048 < 2048 by omega), if_neg h1]
      exact at' v _ _ _ _ (show (C.val - 2048 - 2048) / 128 = C.val % 2048 / 128 by omega) (show (C.val - 2048 - 2048) % 128 = C.val % 128 by omega)

/-- A rotated head column, from the row of products it belongs to. -/
theorem head_apply (t : FVec Ideal S2x8192x16x128 .f32) (p : IVec S2x8192 32) (a : Fin 2) (b : Fin 8192) (h : Fin 16) (l : Fin 128)
    (P : Fin 6144 → EReal) (C : Fin 6144) (e : C.val % 128 = l.val)
    (ht : ∀ (l' : Fin 128) (C' : Fin 6144), C'.val + l.val = C.val + l'.val → t (ix4 a b h l') = P C') :
    ropeV t (angV p) (ix4 a b h l) = rope P (FloatOps.sitofp (F := Ideal) .f32 (p (ix2 a b))) C := by
  obtain rfl : l = ⟨C.val % 128, Nat.mod_lt _ (by decide)⟩ := Fin.ext e.symm
  rw [ropeV_apply]
  unfold rope
  have hC := C.isLt
  have e0 := ht ⟨C.val % 128, Nat.mod_lt _ (by decide)⟩ C rfl
  by_cases h0 : C.val % 128 < 16
  · rw [dif_pos (show (⟨C.val % 128, Nat.mod_lt _ (by decide)⟩ : Fin 128).val < 16 from h0), dif_pos h0, angV_apply, e0,
      ht ⟨C.val % 128 + 16, by omega⟩ ⟨C.val + 16, by omega⟩ (by show C.val + 16 + C.val % 128 = C.val + (C.val % 128 + 16); omega)]
  · rw [dif_neg (show ¬(⟨C.val % 128, Nat.mod_lt _ (by decide)⟩ : Fin 128).val < 16 from h0), dif_neg h0]
    by_cases h1 : C.val % 128 < 32
    · rw [dif_pos (show (⟨C.val % 128, Nat.mod_lt _ (by decide)⟩ : Fin 128).val < 32 from h1), if_pos h1, angV_apply, e0,
        ht ⟨C.val % 128 - 16, by omega⟩ ⟨C.val - 16, by omega⟩ (by show C.val - 16 + C.val % 128 = C.val + (C.val % 128 - 16); omega)]
    · rw [dif_neg (show ¬(⟨C.val % 128, Nat.mod_lt _ (by decide)⟩ : Fin 128).val < 32 from h1), if_neg h1, e0]

variable (m : (ℓ : Loc nD τ sig) → Buf (Elt Ideal) ℓ) (c : Dev nD)

set_option maxHeartbeats 1000000 in
/-- The reference's result as these stages. -/
theorem res_eq : (Value.res_out0 m c : Vec Ideal S16384x6144 .f32)
    = joinV (ropeV (cutQ (qkvV (m ((c : Thread nD τ).loc main_arg0)) (m ((c : Thread nD τ).loc main_arg2)) (m ((c : Thread nD τ).loc main_arg3)))) (angV (m ((c : Thread nD τ).loc main_arg1))))
        (ropeV (cutK (qkvV (m ((c : Thread nD τ).loc main_arg0)) (m ((c : Thread nD τ).loc main_arg2)) (m ((c : Thread nD τ).loc main_arg3)))) (angV (m ((c : Thread nD τ).loc main_arg1))))
        (cutV (qkvV (m ((c : Thread nD τ).loc main_arg0)) (m ((c : Thread nD τ).loc main_arg2)) (m ((c : Thread nD τ).loc main_arg3)))) := rfl

/-- Row `R` of the residual stream, the two leading axes taken as one. -/
def X (R : Fin 16384) (d : Fin 2048) : EReal :=
  (m ((c : Thread nD τ).loc main_arg0) : Vec Ideal S2x8192x2048 .f32) (ix3 ⟨R.val / 8192, by have := R.isLt; omega⟩ ⟨R.val % 8192, Nat.mod_lt _ (by decide)⟩ d)
/-- The position of row `R`. -/
def pos (R : Fin 16384) : EReal :=
  FloatOps.sitofp (F := Ideal) .f32 ((m ((c : Thread nD τ).loc main_arg1) : Vec Ideal S2x8192 .i32) (ix2 ⟨R.val / 8192, by have := R.isLt; omega⟩ ⟨R.val % 8192, Nat.mod_lt _ (by decide)⟩))
/-- The layer's gain. -/
def gain (d : Fin 2048) : EReal := (m ((c : Thread nD τ).loc main_arg2) : Vec Ideal S2x2048 .f32) (ix2 1 d)
/-- The weight. -/
def W (k : Fin 2048) (f : Fin 6144) : EReal := (m ((c : Thread nD τ).loc main_arg3) : Vec Ideal S1x2048x6144 .f32) (ix3 0 k f)
/-- The row of products. -/
def P (R : Fin 16384) (C : Fin 6144) : EReal := ∑ k, rms (X m c R) (gain m c) k * W m c k C

/-- A product read in its part, head and lane. -/
theorem prod_apply (R : Fin 16384) (s : Fin 3) (h : Fin 16) (l : Fin 128) (C : Fin 6144) (e : C.val = 2048 * s.val + 128 * h.val + l.val) :
    qkvV (m ((c : Thread nD τ).loc main_arg0)) (m ((c : Thread nD τ).loc main_arg2)) (m ((c : Thread nD τ).loc main_arg3))
      (ix5 ⟨R.val / 8192, by omega⟩ ⟨R.val % 8192, by omega⟩ s h l) = P m c R C := by
  rw [qkvV_apply]
  refine Eq.trans ?_ (congrArg (P m c R) (show (⟨2048 * s.val + 128 * h.val + l.val, by omega⟩ : Fin 6144) = C from Fin.ext e.symm))
  rfl

/-- The reference at row `R` and column `C`. -/
theorem result (R : Fin 16384) (C : Fin 6144) :
    (Value.res_out0 m c : Vec Ideal S16384x6144 .f32) (ix2 R C) = qkv (P m c R) (pos m c R) C := by
  rw [res_eq, joinV_apply]
  unfold qkv
  have hC := C.isLt
  by_cases h0 : C.val < 2048
  · rw [if_pos h0, if_pos h0]
    refine congrArg (· * scale) (head_apply _ _ _ _ _ _ (P m c R) C rfl fun l' C' e => ?_)
    rw [cutQ_apply]
    refine prod_apply m c R 0 _ l' C' ?_
    change C'.val + C.val % 128 = _ at e
    show C'.val = 2048 * 0 + 128 * (C.val % 2048 / 128) + l'.val
    omega
  · rw [if_neg h0, if_neg h0]
    by_cases h1 : C.val < 4096
    · rw [if_pos h1, if_pos h1]
      refine head_apply _ _ _ _ _ _ (P m c R) C rfl fun l' C' e => ?_
      rw [cutK_apply]
      refine prod_apply m c R 1 _ l' C' ?_
      change C'.val + C.val % 128 = _ at e
      show C'.val = 2048 * 1 + 128 * (C.val % 2048 / 128) + l'.val
      omega
    · rw [if_neg h1, if_neg h1, cutV_apply]
      refine prod_apply m c R 2 _ _ C ?_
      show C.val = 2048 * 2 + 128 * (C.val % 2048 / 128) + C.val % 128
      omega

end Cert.QkvRef

end
-- ==== Proof.QkvTie.lean ====
/- The query-key-value call and its reference, side by side on memories that agree on the arguments. -/
module

public import proofs.«01_k».proof.Proof.QkvFold
public import proofs.«01_k».proof.Proof.QkvRef

@[expose] public section

noncomputable section

namespace Cert.QkvTie

open Idealize.ShloMosaic Idealize.ShloMosaic.TcCoe

/-- The reference's array is the kernel's. -/
theorem tie (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) :
    (Cert.Reference2Ideal.Value.res_out0 m' c : Vec Ideal Cert.Reference2Ideal.S16384x6144 .f32) = Cert.Kernel2Ideal.Value.G6 m c := by
  obtain ⟨e0, e1, e2, e3⟩ := h
  have hX : Cert.QkvRef.X m' c = Cert.QkvBlocks.X m c := by unfold Cert.QkvRef.X Cert.QkvBlocks.X; rw [e0]
  have hp : Cert.QkvRef.pos m' c = Cert.QkvBlocks.pos m c := by unfold Cert.QkvRef.pos Cert.QkvBlocks.pos; rw [e1]
  have hg : Cert.QkvRef.gain m' c = Cert.QkvBlocks.gain m c := by unfold Cert.QkvRef.gain Cert.QkvBlocks.gain; rw [e2]
  have hW : Cert.QkvRef.W m' c = Cert.QkvBlocks.W m c := by unfold Cert.QkvRef.W Cert.QkvBlocks.W; rw [e3]
  have hP : Cert.QkvRef.P m' c = Cert.QkvFold.P m c := by
    unfold Cert.QkvRef.P Cert.QkvFold.P Cert.QkvFold.xn
    rw [hX, hg, hW]
  funext i
  idx_vars i
  refine (Cert.QkvRef.result m' c _ _).trans (Eq.trans ?_ (Cert.QkvFold.result m c _ _).symm)
  rw [hP, hp]

end Cert.QkvTie

end
-- ==== Proof.OutProjAttn.lean ====
/- The output projection behind the attention: the array the call leaves and the reference's, at a row and a column,
   are the residual plus one row-by-column product. -/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise

@[expose] public section

set_option maxRecDepth 16384

noncomputable section

namespace Cert.OutProjAttn

open Idealize.ShloMosaic Idealize.ShloMosaic.TcCoe

/-- Entry `(R, d)` of the residual plus the attention's rows times the weight. -/
def proj (h : FVec Ideal Cert.Kernel3Ideal.S2x8192x2048 .f32) (a : FVec Ideal Cert.Kernel3Ideal.S16384x2048 .f32)
    (w : FVec Ideal Cert.Kernel3Ideal.S1x2048x2048 .f32) (R : Fin 16384) (d : Fin 2048) : EReal :=
  h (ix3 ⟨R.val / 8192, by have := R.isLt; omega⟩ ⟨R.val % 8192, Nat.mod_lt _ (by decide)⟩ d) + ∑ k : Fin 2048, a (ix2 R k) * w (ix3 0 k d)

section kernel
open Cert.Kernel3Ideal Cert.Kernel3Ideal.Gen
variable (m : (ℓ : Loc nD τ sig) → Buf (Elt Ideal) ℓ) (c : Dev nD)

/-- The array the call leaves. -/
def G : FVec Ideal S16384x2048 .f32 := fun i =>
  proj (m ((c : Thread nD τ).loc main_arg0)) (m ((c : Thread nD τ).loc main_arg1)) (m ((c : Thread nD τ).loc main_arg2)) (i 0) (i 1)

/-- The index maps over the grid. -/
theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

/-- Row `r` of the tile that point `t` works on. -/
def row (t : Fin cfg0.N) (r : Fin 512) : Fin 16384 :=
  ⟨512 * t.val + r.val, by have := r.isLt; have := lt_of_lt_of_eq t.isLt (show cfg0.N = 32 from N_0); omega⟩

theorem read0 (t : Fin cfg0.N) (r : Fin 512) (d : Fin 2048) : (iblk m c 0 t : Vec Ideal S512x2048 .f32) (ix2 r d)
    = (m ((c : Thread nD τ).loc main_arg0) : Vec Ideal S2x8192x2048 .f32) (ix3 ⟨(row t r).val / 8192, by have := (row t r).isLt; omega⟩ ⟨(row t r).val % 8192, Nat.mod_lt _ (by decide)⟩ d) := by
  have hi := idx t
  unfold row
  blk_ext! [iblk, hi.1]

theorem read1 (t : Fin cfg0.N) (r : Fin 512) (d : Fin 2048) : (iblk m c 1 t : Vec Ideal S512x2048 .f32) (ix2 r d)
    = (m ((c : Thread nD τ).loc main_arg1) : Vec Ideal S16384x2048 .f32) (ix2 (row t r) d) := by
  have hi := idx t
  unfold row
  blk_ext! [iblk, hi.2.1]

theorem read2 (t : Fin cfg0.N) (k d : Fin 2048) : (iblk m c 2 t : Vec Ideal S2048x2048 .bf16) (ix2 k d)
    = (m ((c : Thread nD τ).loc main_arg2) : Vec Ideal S1x2048x2048 .f32) (ix3 0 k d) := by
  have hi := idx t
  blk_ext! [iblk, hi.2.2.1]

theorem final : (dats m 0 c).arrAt 3 cfg0.N = G m c := by
  refine (dats m 0 c).arrAt_eq_of_covers 3 _ (by decide +kernel) fun t hf y => ?_
  have hi := idx t
  blk_simp
  rw [after0_3]
  frame_out
  unfold_payloads
  idx_vars y
  pointwise
  simp only [read0, read1, read2]
  have he : ((View.whole main_v3).slice (win0_3.rect t)).emb (ix2 y0 y1) = ix2 (row t y0) y1 := by
    refine (eq_ix2 _).trans ?_
    congr 1 <;> apply Fin.ext
    · refine (Pipeline.Window.rect_emb_val win0_3 t (ix2 y0 y1) 0).trans ?_
      rw [hi.2.2.2]
      show t.val * 512 + y0.val = 512 * t.val + y0.val
      omega
    · refine (Pipeline.Window.rect_emb_val win0_3 t (ix2 y0 y1) 1).trans ?_
      rw [hi.2.2.2]
      show 0 * 2048 + y1.val = y1.val
      omega
  rw [he]
  rfl

end kernel

section reference
open Cert.Reference3Ideal Cert.Reference3Ideal.Gen

/-- The reference's composed term at a row and a column. -/
theorem ref (h : FVec Ideal S2x8192x2048 .f32) (a : FVec Ideal S16384x2048 .f32) (w : FVec Ideal S1x2048x2048 .f32) (R : Fin 16384) (d : Fin 2048) :
    addf (shapeCast S16384x2048 h shapeCasts_S2x8192x2048_S16384x2048) (Host.dotGeneral dot_S16384x2048_S2048x2048_S16384x2048_1_0_0_1_n_n none a (shapeCast S2048x2048 w shapeCasts_S1x2048x2048_S2048x2048)) (ix2 R d)
      = proj h a w R d := by
  pointwise
  rfl

end reference

end Cert.OutProjAttn

end
-- ==== Proof.OutProjRec.lean ====
/- The output projection behind the two recurrent groups: the array the call leaves and the reference's, at a row and a
   column, are the residual plus two row-by-column products, one per group. -/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pointwise

@[expose] public section

set_option maxRecDepth 16384

noncomputable section

namespace Cert.OutProjRec

open Idealize.ShloMosaic Idealize.ShloMosaic.TcCoe

/-- Entry `(R, d)` of the residual plus the two groups' rows, each times its half of the weight. -/
def proj (h : FVec Ideal Cert.Kernel4Ideal.S2x8192x2048 .f32) (a b : FVec Ideal Cert.Kernel4Ideal.S16384x1024 .bf16)
    (w : FVec Ideal Cert.Kernel4Ideal.S1x2048x2048 .f32) (R : Fin 16384) (d : Fin 2048) : EReal :=
  h (ix3 ⟨R.val / 8192, by have := R.isLt; omega⟩ ⟨R.val % 8192, Nat.mod_lt _ (by decide)⟩ d)
    + ∑ k : Fin 1024, a (ix2 R k) * w (ix3 0 (Fin.castAdd 1024 k) d) + ∑ k : Fin 1024, b (ix2 R k) * w (ix3 0 (Fin.natAdd 1024 k) d)

section kernel
open Cert.Kernel4Ideal Cert.Kernel4Ideal.Gen
variable (m : (ℓ : Loc nD τ sig) → Buf (Elt Ideal) ℓ) (c : Dev nD)

/-- The array the call leaves. -/
def G : FVec Ideal S16384x2048 .f32 := fun i =>
  proj (m ((c : Thread nD τ).loc main_arg0)) (m ((c : Thread nD τ).loc main_arg1)) (m ((c : Thread nD τ).loc main_arg2)) (m ((c : Thread nD τ).loc main_arg3)) (i 0) (i 1)

/-- The index maps over the grid. -/
theorem idx : ∀ t : Fin cfg0.N, win0_0.index t = ![t.val, 0] ∧ win0_1.index t = ![t.val, 0] ∧ win0_2.index t = ![t.val, 0]
    ∧ win0_3.index t = ![0, 0] ∧ win0_4.index t = ![1, 0] ∧ win0_5.index t = ![t.val, 0] :=
  (by decide +kernel : ∀ t : Fin grid0.N, _)

/-- Row `r` of the tile that point `t` works on. -/
def row (t : Fin cfg0.N) (r : Fin 512) : Fin 16384 :=
  ⟨512 * t.val + r.val, by have := r.isLt; have := lt_of_lt_of_eq t.isLt (show cfg0.N = 32 from N_0); omega⟩

theorem read0 (t : Fin cfg0.N) (r : Fin 512) (d : Fin 2048) : (iblk m c 0 t : Vec Ideal S512x2048 .f32) (ix2 r d)
    = (m ((c : Thread nD τ).loc main_arg0) : Vec Ideal S2x8192x2048 .f32) (ix3 ⟨(row t r).val / 8192, by have := (row t r).isLt; omega⟩ ⟨(row t r).val % 8192, Nat.mod_lt _ (by decide)⟩ d) := by
  have hi := idx t
  unfold row
  blk_ext! [iblk, hi.1]

theorem read1 (t : Fin cfg0.N) (r : Fin 512) (d : Fin 1024) : (iblk m c 1 t : Vec Ideal S512x1024 .bf16) (ix2 r d)
    = (m ((c : Thread nD τ).loc main_arg1) : Vec Ideal S16384x1024 .bf16) (ix2 (row t r) d) := by
  have hi := idx t
  unfold row
  blk_ext! [iblk, hi.2.1]

theorem read2 (t : Fin cfg0.N) (r : Fin 512) (d : Fin 1024) : (iblk m c 2 t : Vec Ideal S512x1024 .bf16) (ix2 r d)
    = (m ((c : Thread nD τ).loc main_arg2) : Vec Ideal S16384x1024 .bf16) (ix2 (row t r) d) := by
  have hi := idx t
  unfold row
  blk_ext! [iblk, hi.2.2.1]

theorem read3 (t : Fin cfg0.N) (k : Fin 1024) (d : Fin 2048) : (iblk m c 3 t : Vec Ideal S1024x2048 .bf16) (ix2 k d)
    = (m ((c : Thread nD τ).loc main_arg3) : Vec Ideal S1x2048x2048 .f32) (ix3 0 (Fin.castAdd 1024 k) d) := by
  have hi := idx t
  unfold Fin.castAdd Fin.castLE
  blk_ext! [iblk, hi.2.2.2.1]

theorem read4 (t : Fin cfg0.N) (k : Fin 1024) (d : Fin 2048) : (iblk m c 4 t : Vec Ideal S1024x2048 .bf16) (ix2 k d)
    = (m ((c : Thread nD τ).loc main_arg3) : Vec Ideal S1x2048x2048 .f32) (ix3 0 (Fin.natAdd 1024 k) d) := by
  have hi := idx t
  unfold Fin.natAdd
  blk_ext! [iblk, hi.2.2.2.2.1]

theorem final : (dats m 0 c).arrAt 5 cfg0.N = G m c := by
  refine (dats m 0 c).arrAt_eq_of_covers 5 _ (by decide +kernel) fun t hf y => ?_
  have hi := idx t
  blk_simp
  rw [after0_5]
  frame_out
  unfold_payloads
  idx_vars y
  pointwise
  simp only [read0, read1, read2, read3, read4]
  have he : ((View.whole main_v3).slice (win0_5.rect t)).emb (ix2 y0 y1) = ix2 (row t y0) y1 := by
    refine (eq_ix2 _).trans ?_
    congr 1 <;> apply Fin.ext
    · refine (Pipeline.Window.rect_emb_val win0_5 t (ix2 y0 y1) 0).trans ?_
      rw [hi.2.2.2.2.2]
      show t.val * 512 + y0.val = 512 * t.val + y0.val
      omega
    · refine (Pipeline.Window.rect_emb_val win0_5 t (ix2 y0 y1) 1).trans ?_
      rw [hi.2.2.2.2.2]
      show 0 * 2048 + y1.val = y1.val
      omega
  rw [he]
  rfl

end kernel

section reference
open Cert.Reference4Ideal Cert.Reference4Ideal.Gen

/-- The reference's composed term at a row and a column: the sum over the joined groups splits at their border. -/
theorem ref (h : FVec Ideal S2x8192x2048 .f32) (a b : FVec Ideal S16384x1024 .bf16) (w : FVec Ideal S1x2048x2048 .f32) (R : Fin 16384) (d : Fin 2048) :
    addf (shapeCast S16384x2048 h shapeCasts_S2x8192x2048_S16384x2048) (Host.dotGeneral dot_S16384x2048_S2048x2048_S16384x2048_1_0_0_1_n_n none (concatenate S16384x2048 1 [⟨S16384x1024, (extf .f32 a bitsLt_bf16_f32)⟩, ⟨S16384x1024, (extf .f32 b bitsLt_bf16_f32)⟩] concatenates_S16384x1024_S16384x1024_S16384x2048_d1) (shapeCast S2048x2048 w shapeCasts_S1x2048x2048_S2048x2048)) (ix2 R d)
      = proj h a b w R d := by
  pointwise
  unfold proj
  rw [add_assoc]
  congr 1

end reference

end Cert.OutProjRec

end
-- ==== Proof.lean ====
/- The certificate's proof: the frames by the generated runs; the value claims by a closed form of each call's array beside
   its reference's: the gated linear recurrence (LruTie), the MLP's accumulation (MlpTie), the normed projection (NormMat),
   the rotated queries and keys (QkvTie), and the two output projections (OutProjAttn, OutProjRec). -/
module

public import proofs.«01_k».proof.Defs
public import proofs.«01_k».proof.Proof.Gen.Kernel.Frame
public import proofs.«01_k».proof.Proof.Gen.KernelIdeal.Value
public import proofs.«01_k».proof.Proof.Gen.ReferenceIdeal.Run
public import Idealize.ShloMosaic.Adequacy
public import Idealize.ShloMosaic.Init
public import Idealize.ShloMosaic.Lib.Quiescent
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.LruTie
public import proofs.«01_k».proof.Proof.NormMat
public import proofs.«01_k».proof.Proof.MlpTie
public import proofs.«01_k».proof.Proof.QkvTie
public import proofs.«01_k».proof.Proof.OutProjAttn
public import proofs.«01_k».proof.Proof.OutProjRec

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  exact Cert.MlpTie.tie m m' c (hagree c)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic_Kernel2Ideal_Reference2Ideal : algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ⟨?_, (h c).2⟩) (Cert.Reference2Ideal.Value.run (F := Ideal) m' ρ')
  rw [(h c).1]
  exact Cert.QkvTie.tie m m' c (hagree c)

theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  obtain ⟨e0, e1, e2⟩ := hagree c
  rw [(h c).1, Cert.OutProjAttn.final m c, e0, e1, e2]
  funext i
  idx_vars i
  exact Cert.OutProjAttn.ref _ _ _ _ _

theorem algebraic_Kernel4Ideal_Reference4Ideal : algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  obtain ⟨e0, e1, e2, e3⟩ := hagree c
  rw [(h c).1, Cert.OutProjRec.final m c, e0, e1, e2, e3]
  funext i
  idx_vars i
  exact Cert.OutProjRec.ref _ _ _ _ _ _

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem algebraic_Kernel5Ideal_Reference5Ideal : algebraic_Kernel5Ideal_Reference5Ideal := by
  intro m ρ m' ρ' _ hagree
  refine ⟨_, Cert.Kernel5Ideal.Value.run (F := Ideal) m ρ, ?_⟩
  refine (θ_run Cert.Reference5Ideal.defs _ _).mono (fun _ h c => ⟨?_, (h c).2⟩) (Cert.Reference5Ideal.Value.run (F := Ideal) m' ρ')
  obtain ⟨e0, e1, e2⟩ := hagree c
  rw [(h c).1, e0, e1, e2]
  funext i
  idx_vars i
  exact (Cert.NormMat.ref _ _ _ _ _).trans (Cert.NormMat.result m c _ _).symm

theorem quiescent_Reference6Ideal : quiescent_Reference6Ideal := fun m ρ _ =>
  (θ_run Cert.Reference6Ideal.defs _ _).mono (fun r h => ⟨fun c => (h c).2, sem_eq_zero_of_no_sems (by decide) r.2⟩)
    (Cert.LruTie.run m ρ)

theorem algebraic_Kernel6Ideal_Reference6Ideal : algebraic_Kernel6Ideal_Reference6Ideal := by
  intro m ρ m' ρ' _ hagree
  refine ⟨_, Cert.Kernel6Ideal.Value.run (F := Ideal) m ρ, ?_⟩
  refine (θ_run Cert.Reference6Ideal.defs _ _).mono (fun _ h c => ⟨?_, (h c).2⟩) (Cert.LruTie.run m' ρ')
  rw [(h c).1]
  exact Cert.LruTie.tie m m' c (hagree c)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.Gen.frame m ρ, fun m ρ _ => Cert.Kernel5Ideal.Gen.frame m ρ, quiescent_Reference5Ideal,
  fun m ρ _ => Cert.Kernel6.Gen.frame m ρ, fun m ρ _ => Cert.Kernel6Ideal.Gen.frame m ρ, quiescent_Reference6Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal,
  (trivial : preserves_Kernel5_Kernel5Ideal), algebraic_Kernel5Ideal_Reference5Ideal,
  (trivial : preserves_Kernel6_Kernel6Ideal), algebraic_Kernel6Ideal_Reference6Ideal⟩

end Cert.Proof

end
